-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_windowed_finite [hPre_windowed_finite : Cert.Pre_windowed_finite.Facts] (m : (ℓ : Loc Cert.KernelIdeal.nD Cert.KernelIdeal.τ Cert.KernelIdeal.sig) → Buf (Elt Ideal) ℓ) : Prop :=
  ∀ c : Dev Cert.KernelIdeal.nD,
    (Cert.Pre_windowed_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_windowed_finite [hPre_windowed_finite : Cert.Pre_windowed_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_windowed_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_windowed_finite [hKernelIdeal : Cert.KernelIdeal.Facts] [hPre_windowed_finite : Cert.Pre_windowed_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_windowed_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_windowed_finite [hReferenceIdeal : Cert.ReferenceIdeal.Facts] [hPre_windowed_finite : Cert.Pre_windowed_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_windowed_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "scale" .f32 0x3E3504F3#32 (((Real.sqrt 32)⁻¹ : ℝ) : EReal)

def algebraic_KernelIdeal_ReferenceIdeal_pre_windowed_finite [hKernelIdeal : Cert.KernelIdeal.Facts] [hReferenceIdeal : Cert.ReferenceIdeal.Facts] [hPre_windowed_finite : Cert.Pre_windowed_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_windowed_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v238) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_windowed_finite : Cert.Pre_windowed_finite.Facts),
    quiescent_Kernel (hKernel := hKernel)
    ∧ quiescent_KernelIdeal (hKernelIdeal := hKernelIdeal)
    ∧ quiescent_KernelIdeal_pre_windowed_finite (hKernelIdeal := hKernelIdeal) (hPre_windowed_finite := hPre_windowed_finite)
    ∧ quiescent_ReferenceIdeal (hReferenceIdeal := hReferenceIdeal)
    ∧ quiescent_ReferenceIdeal_pre_windowed_finite (hReferenceIdeal := hReferenceIdeal) (hPre_windowed_finite := hPre_windowed_finite)
    ∧ preserves_Kernel_KernelIdeal
    ∧ algebraic_KernelIdeal_ReferenceIdeal_pre_windowed_finite (hKernelIdeal := hKernelIdeal) (hReferenceIdeal := hReferenceIdeal) (hPre_windowed_finite := hPre_windowed_finite)
-- ==== Pre_windowed_finite.lean ====
abbrev S8192x192 : Shape := ⟨2, ![8192, 192]⟩
abbrev S8192x3 : Shape := ⟨2, ![8192, 3]⟩
abbrev S131072 : Shape := ⟨1, ![131072]⟩
abbrev S8193 : Shape := ⟨1, ![8193]⟩
abbrev S_ : Shape := ⟨0, ![]⟩
abbrev S576x192 : Shape := ⟨2, ![576, 192]⟩
abbrev S576 : Shape := ⟨1, ![576]⟩
abbrev S192x192 : Shape := ⟨2, ![192, 192]⟩
abbrev S192 : Shape := ⟨1, ![192]⟩
abbrev S64x6x32x3 : Shape := ⟨4, ![64, 6, 32, 3]⟩
abbrev S8192x16 : Shape := ⟨2, ![8192, 16]⟩
abbrev S512x16x16 : Shape := ⟨3, ![512, 16, 16]⟩
abbrev S384x192 : Shape := ⟨2, ![384, 192]⟩
abbrev S384 : Shape := ⟨1, ![384]⟩
abbrev S31x6x32x3 : Shape := ⟨4, ![31, 6, 32, 3]⟩

class Facts : Prop where
  bcast_S_S512x16x16 : S_.BroadcastsInDim S512x16x16 (![] : Fin 0 → Fin S512x16x16.rank)
  shapeCasts_S131072_S8192x16 : S131072.ShapeCasts S8192x16
  reducesTo_S8192x16_S_d0_1 : S8192x16.ReducesTo [0, 1] S_
  h_S_ : 0 < S_.numel
  shapeCasts_S131072_S512x16x16 : S131072.ShapeCasts S512x16x16
  reducesTo_S512x16x16_S_d0_1_2 : S512x16x16.ReducesTo [0, 1, 2] S_
  bcast_S_S8192x192 : S_.BroadcastsInDim S8192x192 (![] : Fin 0 → Fin S8192x192.rank)
  reducesTo_S8192x192_S_d0_1 : S8192x192.ReducesTo [0, 1] S_
  bcast_S_S8192x3 : S_.BroadcastsInDim S8192x3 (![] : Fin 0 → Fin S8192x3.rank)
  reducesTo_S8192x3_S_d0_1 : S8192x3.ReducesTo [0, 1] S_
  slices_S576x192_S384x192_0_0 : S576x192.Slices ![0, 0] S384x192
  bcast_S_S384x192 : S_.BroadcastsInDim S384x192 (![] : Fin 0 → Fin S384x192.rank)
  reducesTo_S384x192_S_d0_1 : S384x192.ReducesTo [0, 1] S_
  slices_S576_S384_0 : S576.Slices ![0] S384
  bcast_S_S384 : S_.BroadcastsInDim S384 (![] : Fin 0 → Fin S384.rank)
  reducesTo_S384_S_d0 : S384.ReducesTo [0] S_
  slices_S64x6x32x3_S31x6x32x3_0_0_0_0 : S64x6x32x3.Slices ![0, 0, 0, 0] S31x6x32x3
  bcast_S_S31x6x32x3 : S_.BroadcastsInDim S31x6x32x3 (![] : Fin 0 → Fin S31x6x32x3.rank)
  reducesTo_S31x6x32x3_S_d0_1_2_3 : S31x6x32x3.ReducesTo [0, 1, 2, 3] S_

variable [Facts]

def fn_part2 {F : FTy → Type} [FloatOps F] (main_arg12 : FVec F S64x6x32x3 .f32) (main_v34 : IVec S_ 1) (main_v36 : FVec F S31x6x32x3 .f32) : IVec S_ 1 :=
  let main_cst_9 : FVec F S_ .f32 := constant S_ .f32 0x7F800000#32
  let main_v37 : FVec F S31x6x32x3 .f32 := broadcastInDim S31x6x32x3 ![] bcast_S_S31x6x32x3 main_cst_9
  let main_v38 : IVec S31x6x32x3 1 := cmpf .olt main_v36 main_v37
  let main_c_10 : IVec S_ 1 := constantI S_ 1 1#1
  let main_v39 : IVec S_ 1 := (fun x v => Host.reduce IntOp.andi x v reducesTo_S31x6x32x3_S_d0_1_2_3 h_S_) main_v38 main_c_10
  let main_v40 : IVec S_ 1 := andi main_v34 main_v39
  let main_v41 : FVec F S31x6x32x3 .f32 := (extractStridedSlice S31x6x32x3 ![0, 0, 0, 0] · slices_S64x6x32x3_S31x6x32x3_0_0_0_0) main_arg12
  let main_v42 : FVec F S31x6x32x3 .f32 := Host.absf main_v41
  let main_cst_11 : FVec F S_ .f32 := constant S_ .f32 0x7F800000#32
  let main_v43 : FVec F S31x6x32x3 .f32 := broadcastInDim S31x6x32x3 ![] bcast_S_S31x6x32x3 main_cst_11
  let main_v44 : IVec S31x6x32x3 1 := cmpf .olt main_v42 main_v43
  let main_c_12 : IVec S_ 1 := constantI S_ 1 1#1
  let main_v45 : IVec S_ 1 := (fun x v => Host.reduce IntOp.andi x v reducesTo_S31x6x32x3_S_d0_1_2_3 h_S_) main_v44 main_c_12
  let main_v46 : IVec S_ 1 := andi main_v40 main_v45
  main_v46

def fn_part1 {F : FTy → Type} [FloatOps F] (main_arg7 : FVec F S576x192 .f32) (main_arg8 : FVec F S576 .f32) (main_arg11 : FVec F S64x6x32x3 .f32) (main_arg12 : FVec F S64x6x32x3 .f32) (main_v17 : IVec S_ 1) (main_v18 : FVec F S8192x3 .f32) : IVec S_ 1 :=
  let main_cst_3 : FVec F S_ .f32 := constant S_ .f32 0x7F800000#32
  let main_v19 : FVec F S8192x3 .f32 := broadcastInDim S8192x3 ![] bcast_S_S8192x3 main_cst_3
  let main_v20 : IVec S8192x3 1 := cmpf .olt main_v18 main_v19
  let main_c_4 : IVec S_ 1 := constantI S_ 1 1#1
  let main_v21 : IVec S_ 1 := (fun x v => Host.reduce IntOp.andi x v reducesTo_S8192x3_S_d0_1 h_S_) main_v20 main_c_4
  let main_v22 : IVec S_ 1 := andi main_v17 main_v21
  let main_v23 : FVec F S384x192 .f32 := (extractStridedSlice S384x192 ![0, 0] · slices_S576x192_S384x192_0_0) main_arg7
  let main_v24 : FVec F S384x192 .f32 := Host.absf main_v23
  let main_cst_5 : FVec F S_ .f32 := constant S_ .f32 0x7F800000#32
  let main_v25 : FVec F S384x192 .f32 := broadcastInDim S384x192 ![] bcast_S_S384x192 main_cst_5
  let main_v26 : IVec S384x192 1 := cmpf .olt main_v24 main_v25
  let main_c_6 : IVec S_ 1 := constantI S_ 1 1#1
  let main_v27 : IVec S_ 1 := (fun x v => Host.reduce IntOp.andi x v reducesTo_S384x192_S_d0_1 h_S_) main_v26 main_c_6
  let main_v28 : IVec S_ 1 := andi main_v22 main_v27
  let main_v29 : FVec F S384 .f32 := (extractStridedSlice S384 ![0] · slices_S576_S384_0) main_arg8
  let main_v30 : FVec F S384 .f32 := Host.absf main_v29
  let main_cst_7 : FVec F S_ .f32 := constant S_ .f32 0x7F800000#32
  let main_v31 : FVec F S384 .f32 := broadcastInDim S384 ![] bcast_S_S384 main_cst_7
  let main_v32 : IVec S384 1 := cmpf .olt main_v30 main_v31
  let main_c_8 : IVec S_ 1 := constantI S_ 1 1#1
  let main_v33 : IVec S_ 1 := (fun x v => Host.reduce IntOp.andi x v reducesTo_S384_S_d0 h_S_) main_v32 main_c_8
  let main_v34 : IVec S_ 1 := andi main_v28 main_v33
  let main_v35 : FVec F S31x6x32x3 .f32 := (extractStridedSlice S31x6x32x3 ![0, 0, 0, 0] · slices_S64x6x32x3_S31x6x32x3_0_0_0_0) main_arg11
  let main_v36 : FVec F S31x6x32x3 .f32 := Host.absf main_v35
  fn_part2 (F := F) main_arg12 main_v34 main_v36

def fn {F : FTy → Type} [FloatOps F] (main_arg0 : FVec F S8192x192 .f32) (main_arg1 : FVec F S8192x3 .f32) (main_arg2 : IVec S131072 32) (main_arg3 : IVec S8193 32) (main_arg4 : IVec S_ 32) (main_arg5 : IVec S131072 32) (main_arg6 : IVec S_ 32) (main_arg7 : FVec F S576x192 .f32) (main_arg8 : FVec F S576 .f32) (main_arg9 : FVec F S192x192 .f32) (main_arg10 : FVec F S192 .f32) (main_arg11 : FVec F S64x6x32x3 .f32) (main_arg12 : FVec F S64x6x32x3 .f32) (main_arg13 : FVec F S64x6x32x3 .f32) : IVec S_ 1 :=
  let main_v0 : IVec S8192x16 32 := iotaInDim S8192x16 32 0
  let main_v1 : IVec S512x16x16 32 := iotaInDim S512x16x16 32 0
  let main_c : IVec S_ 32 := constantI S_ 32 16#32
  let main_v2 : IVec S512x16x16 32 := broadcastInDim S512x16x16 ![] bcast_S_S512x16x16 main_c
  let main_v3 : IVec S512x16x16 32 := muli main_v1 main_v2
  let main_v4 : IVec S512x16x16 32 := iotaInDim S512x16x16 32 2
  let main_v5 : IVec S8192x16 32 := shapeCast S8192x16 main_arg2 shapeCasts_S131072_S8192x16
  let main_v6 : IVec S8192x16 1 := cmpi .eq main_v5 main_v0
  let main_c_0 : IVec S_ 1 := constantI S_ 1 1#1
  let main_v7 : IVec S_ 1 := (fun x v => Host.reduce IntOp.andi x v reducesTo_S8192x16_S_d0_1 h_S_) main_v6 main_c_0
  let main_v8 : IVec S512x16x16 32 := shapeCast S512x16x16 main_arg5 shapeCasts_S131072_S512x16x16
  let main_v9 : IVec S512x16x16 32 := addi main_v3 main_v4
  let main_v10 : IVec S512x16x16 1 := cmpi .eq main_v8 main_v9
  let main_c_1 : IVec S_ 1 := constantI S_ 1 1#1
  let main_v11 : IVec S_ 1 := (fun x v => Host.reduce IntOp.andi x v reducesTo_S512x16x16_S_d0_1_2 h_S_) main_v10 main_c_1
  let main_v12 : IVec S_ 1 := andi main_v7 main_v11
  let main_v13 : FVec F S8192x192 .f32 := Host.absf main_arg0
  let main_cst : FVec F S_ .f32 := constant S_ .f32 0x7F800000#32
  let main_v14 : FVec F S8192x192 .f32 := broadcastInDim S8192x192 ![] bcast_S_S8192x192 main_cst
  let main_v15 : IVec S8192x192 1 := cmpf .olt main_v13 main_v14
  let main_c_2 : IVec S_ 1 := constantI S_ 1 1#1
  let main_v16 : IVec S_ 1 := (fun x v => Host.reduce IntOp.andi x v reducesTo_S8192x192_S_d0_1 h_S_) main_v15 main_c_2
  let main_v17 : IVec S_ 1 := andi main_v12 main_v16
  let main_v18 : FVec F S8192x3 .f32 := Host.absf main_arg1
  fn_part1 (F := F) main_arg7 main_arg8 main_arg11 main_arg12 main_v17 main_v18
-- ==== Kernel.lean ====
abbrev S8192x192 : Shape := ⟨2, ![8192, 192]⟩
abbrev S8192x3 : Shape := ⟨2, ![8192, 3]⟩
abbrev S131072 : Shape := ⟨1, ![131072]⟩
abbrev S8193 : Shape := ⟨1, ![8193]⟩
abbrev S_ : Shape := ⟨0, ![]⟩
abbrev S576x192 : Shape := ⟨2, ![576, 192]⟩
abbrev S576 : Shape := ⟨1, ![576]⟩
abbrev S192x192 : Shape := ⟨2, ![192, 192]⟩
abbrev S192 : Shape := ⟨1, ![192]⟩
abbrev S64x6x32x3 : Shape := ⟨4, ![64, 6, 32, 3]⟩
abbrev S192x576 : Shape := ⟨2, ![192, 576]⟩
abbrev S1x576 : Shape := ⟨2, ![1, 576]⟩
abbrev S1x192 : Shape := ⟨2, ![1, 192]⟩
abbrev S3x64x6x32 : Shape := ⟨4, ![3, 64, 6, 32]⟩
abbrev S3 : Shape := ⟨1, ![3]⟩
abbrev S1x3 : Shape := ⟨2, ![1, 3]⟩
abbrev S512x192 : Shape := ⟨2, ![512, 192]⟩
abbrev S512x3 : Shape := ⟨2, ![512, 3]⟩
abbrev S512x576 : Shape := ⟨2, ![512, 576]⟩
abbrev S3x192 : Shape := ⟨2, ![3, 192]⟩
abbrev S512x1x192 : Shape := ⟨3, ![512, 1, 192]⟩
abbrev S512x16x192 : Shape := ⟨3, ![512, 16, 192]⟩
abbrev S32x1x16x192 : Shape := ⟨4, ![32, 1, 16, 192]⟩
abbrev S32x16x16x192 : Shape := ⟨4, ![32, 16, 16, 192]⟩
abbrev S8192x576 : Shape := ⟨2, ![8192, 576]⟩
abbrev S192x6 : Shape := ⟨2, ![192, 6]⟩
abbrev S8192x6 : Shape := ⟨2, ![8192, 6]⟩
abbrev S512x16x6 : Shape := ⟨3, ![512, 16, 6]⟩
abbrev S512x6 : Shape := ⟨2, ![512, 6]⟩
abbrev S512x1x6 : Shape := ⟨3, ![512, 1, 6]⟩
abbrev S6x192 : Shape := ⟨2, ![6, 192]⟩

abbrev nBuf : Space → Nat
  | .hbm => 32
  | .vmem => 12
  | .smem => 0
  | _ => 0

abbrev bufTy : (tb : Table) → Fin (tcTables nBuf tb) → BufTy
  | .hbm, ⟨0, _⟩ => ⟨S8192x192, .f32⟩
  | .hbm, ⟨1, _⟩ => ⟨S8192x3, .f32⟩
  | .hbm, ⟨2, _⟩ => ⟨S131072, .i32⟩
  | .hbm, ⟨3, _⟩ => ⟨S8193, .i32⟩
  | .hbm, ⟨4, _⟩ => ⟨S_, .i32⟩
  | .hbm, ⟨5, _⟩ => ⟨S131072, .i32⟩
  | .hbm, ⟨6, _⟩ => ⟨S_, .i32⟩
  | .hbm, ⟨7, _⟩ => ⟨S576x192, .f32⟩
  | .hbm, ⟨8, _⟩ => ⟨S576, .f32⟩
  | .hbm, ⟨9, _⟩ => ⟨S192x192, .f32⟩
  | .hbm, ⟨10, _⟩ => ⟨S192, .f32⟩
  | .hbm, ⟨11, _⟩ => ⟨S64x6x32x3, .f32⟩
  | .hbm, ⟨12, _⟩ => ⟨S64x6x32x3, .f32⟩
  | .hbm, ⟨13, _⟩ => ⟨S64x6x32x3, .f32⟩
  | .hbm, ⟨14, _⟩ => ⟨S192x576, .f32⟩
  | .hbm, ⟨15, _⟩ => ⟨S1x576, .f32⟩
  | .hbm, ⟨16, _⟩ => ⟨S192x192, .f32⟩
  | .hbm, ⟨17, _⟩ => ⟨S1x192, .f32⟩
  | .hbm, ⟨18, _⟩ => ⟨S3x64x6x32, .f32⟩
  | .hbm, ⟨19, _⟩ => ⟨S192x192, .f32⟩
  | .hbm, ⟨20, _⟩ => ⟨S3x64x6x32, .f32⟩
  | .hbm, ⟨21, _⟩ => ⟨S192x192, .f32⟩
  | .hbm, ⟨22, _⟩ => ⟨S3x64x6x32, .f32⟩
  | .hbm, ⟨23, _⟩ => ⟨S192x192, .f32⟩
  | .hbm, ⟨24, _⟩ => ⟨S192x576, .f32⟩
  | .hbm, ⟨25, _⟩ => ⟨S_, .f32⟩
  | .hbm, ⟨26, _⟩ => ⟨S_, .f32⟩
  | .hbm, ⟨27, _⟩ => ⟨S3, .f32⟩
  | .hbm, ⟨28, _⟩ => ⟨S1x3, .f32⟩
  | .hbm, ⟨29, _⟩ => ⟨S1x3, .f32⟩
  | .hbm, ⟨30, _⟩ => ⟨S1x3, .f32⟩
  | .hbm, ⟨31, _⟩ => ⟨S8192x192, .f32⟩
  | .local _ .vmem, ⟨0, _⟩ => ⟨S512x192, .f32⟩
  | .local _ .vmem, ⟨1, _⟩ => ⟨S512x192, .f32⟩
  | .local _ .vmem, ⟨2, _⟩ => ⟨S512x3, .f32⟩
  | .local _ .vmem, ⟨3, _⟩ => ⟨S512x3, .f32⟩
  | .local _ .vmem, ⟨4, _⟩ => ⟨S1x3, .f32⟩
  | .local _ .vmem, ⟨5, _⟩ => ⟨S192x576, .f32⟩
  | .local _ .vmem, ⟨6, _⟩ => ⟨S1x576, .f32⟩
  | .local _ .vmem, ⟨7, _⟩ => ⟨S192x576, .f32⟩
  | .local _ .vmem, ⟨8, _⟩ => ⟨S192x192, .f32⟩
  | .local _ .vmem, ⟨9, _⟩ => ⟨S1x192, .f32⟩
  | .local _ .vmem, ⟨10, _⟩ => ⟨S512x192, .f32⟩
  | .local _ .vmem, ⟨11, _⟩ => ⟨S512x192, .f32⟩
  | _, _ => ⟨S8192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_v12 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x576 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x576 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S192x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "scale" => some (((Real.sqrt 32)⁻¹ : ℝ) : EReal)
  | _ => none
-- ==== ReferenceIdeal.lean ====
abbrev S8192x192 : Shape := ⟨2, ![8192, 192]⟩
abbrev S8192x3 : Shape := ⟨2, ![8192, 3]⟩
abbrev S131072 : Shape := ⟨1, ![131072]⟩
abbrev S8193 : Shape := ⟨1, ![8193]⟩
abbrev S_ : Shape := ⟨0, ![]⟩
abbrev S576x192 : Shape := ⟨2, ![576, 192]⟩
abbrev S576 : Shape := ⟨1, ![576]⟩
abbrev S192x192 : Shape := ⟨2, ![192, 192]⟩
abbrev S192 : Shape := ⟨1, ![192]⟩
abbrev S64x6x32x3 : Shape := ⟨4, ![64, 6, 32, 3]⟩
abbrev S192x576 : Shape := ⟨2, ![192, 576]⟩
abbrev S8192x576 : Shape := ⟨2, ![8192, 576]⟩
abbrev S1x576 : Shape := ⟨2, ![1, 576]⟩
abbrev S8192x3x6x32 : Shape := ⟨4, ![8192, 3, 6, 32]⟩
abbrev S3x8192x6x32 : Shape := ⟨4, ![3, 8192, 6, 32]⟩
abbrev S1x8192x6x32 : Shape := ⟨4, ![1, 8192, 6, 32]⟩
abbrev S8192x6x32 : Shape := ⟨3, ![8192, 6, 32]⟩
abbrev S131072x1 : Shape := ⟨2, ![131072, 1]⟩
abbrev S131072x6x32 : Shape := ⟨3, ![131072, 6, 32]⟩
abbrev S131072x6 : Shape := ⟨2, ![131072, 6]⟩
abbrev S3 : Shape := ⟨1, ![3]⟩
abbrev S1x3 : Shape := ⟨2, ![1, 3]⟩
abbrev S131072x3 : Shape := ⟨2, ![131072, 3]⟩
abbrev S131072x2 : Shape := ⟨2, ![131072, 2]⟩
abbrev S1x131072 : Shape := ⟨2, ![1, 131072]⟩
abbrev S8192 : Shape := ⟨1, ![8192]⟩
abbrev S8192x1 : Shape := ⟨2, ![8192, 1]⟩
abbrev S8192x131072 : Shape := ⟨2, ![8192, 131072]⟩
abbrev S8192x131072x1 : Shape := ⟨3, ![8192, 131072, 1]⟩
abbrev S1x131072x6 : Shape := ⟨3, ![1, 131072, 6]⟩
abbrev S8192x131072x6 : Shape := ⟨3, ![8192, 131072, 6]⟩
abbrev S8192x6 : Shape := ⟨2, ![8192, 6]⟩
abbrev S131072x6x1 : Shape := ⟨3, ![131072, 6, 1]⟩
abbrev S1x192 : Shape := ⟨2, ![1, 192]⟩

abbrev nBuf : Space → Nat
  | .hbm => 324
  | .vmem => 0
  | .smem => 0
  | _ => 0

abbrev hbmTy0_0 (i : Nat) : BufTy := match i % 128 with
  | 0 => ⟨S8192x192, .f32⟩
  | 1 => ⟨S8192x3, .f32⟩
  | 2 => ⟨S131072, .i32⟩
  | 3 => ⟨S8193, .i32⟩
  | 4 => ⟨S_, .i32⟩
  | 5 => ⟨S131072, .i32⟩
  | 6 => ⟨S_, .i32⟩
  | 7 => ⟨S576x192, .f32⟩
  | 8 => ⟨S576, .f32⟩
  | 9 => ⟨S192x192, .f32⟩
  | 10 => ⟨S192, .f32⟩
  | 11 => ⟨S64x6x32x3, .f32⟩
  | 12 => ⟨S64x6x32x3, .f32⟩
  | 13 => ⟨S64x6x32x3, .f32⟩
  | 14 => ⟨S192x576, .f32⟩
  | 15 => ⟨S8192x576, .f32⟩
  | 16 => ⟨S1x576, .f32⟩
  | 17 => ⟨S8192x576, .f32⟩
  | 18 => ⟨S8192x576, .f32⟩
  | 19 => ⟨S8192x3x6x32, .f32⟩
  | 20 => ⟨S3x8192x6x32, .f32⟩
  | 21 => ⟨S1x8192x6x32, .f32⟩
  | 22 => ⟨S8192x6x32, .f32⟩
  | 23 => ⟨S1x8192x6x32, .f32⟩
  | 24 => ⟨S8192x6x32, .f32⟩
  | 25 => ⟨S1x8192x6x32, .f32⟩
  | 26 => ⟨S8192x6x32, .f32⟩
  | 27 => ⟨S_, .f32⟩
  | 28 => ⟨S_, .f32⟩
  | 29 => ⟨S8192x6x32, .f32⟩
  | 30 => ⟨S8192x6x32, .f32⟩
  | 31 => ⟨S_, .i32⟩
  | 32 => ⟨S131072, .i32⟩
  | 33 => ⟨S131072, .i1⟩
  | 34 => ⟨S_, .i32⟩
  | 35 => ⟨S131072, .i32⟩
  | 36 => ⟨S131072, .i32⟩
  | 37 => ⟨S131072, .i32⟩
  | 38 => ⟨S131072x1, .i32⟩
  | 39 => ⟨S131072x6x32, .f32⟩
  | 40 => ⟨S_, .i32⟩
  | 41 => ⟨S131072, .i32⟩
  | 42 => ⟨S131072, .i1⟩
  | 43 => ⟨S_, .i32⟩
  | 44 => ⟨S131072, .i32⟩
  | 45 => ⟨S131072, .i32⟩
  | 46 => ⟨S131072, .i32⟩
  | 47 => ⟨S131072x1, .i32⟩
  | 48 => ⟨S131072x6x32, .f32⟩
  | 49 => ⟨S131072x6, .f32⟩
  | 50 => ⟨S_, .f32⟩
  | 51 => ⟨S3, .f32⟩
  | 52 => ⟨S1x3, .f32⟩
  | 53 => ⟨S8192x3, .f32⟩
  | 54 => ⟨S8192x3, .f32⟩
  | 55 => ⟨S_, .f32⟩
  | 56 => ⟨S8192x3, .f32⟩
  | 57 => ⟨S8192x3, .f32⟩
  | 58 => ⟨S_, .f32⟩
  | 59 => ⟨S_, .f32⟩
  | 60 => ⟨S8192x3, .f32⟩
  | 61 => ⟨S8192x3, .f32⟩
  | 62 => ⟨S_, .f32⟩
  | 63 => ⟨S8192x3, .f32⟩
  | 64 => ⟨S8192x3, .i1⟩
  | 65 => ⟨S_, .f32⟩
  | 66 => ⟨S8192x3, .f32⟩
  | 67 => ⟨S8192x3, .i1⟩
  | 68 => ⟨S_, .f32⟩
  | 69 => ⟨S_, .i1⟩
  | 70 => ⟨S8192x3, .i1⟩
  | 71 => ⟨S8192x3, .i1⟩
  | 72 => ⟨S8192x3, .i1⟩
  | 73 => ⟨S8192x3, .f32⟩
  | 74 => ⟨S8192x3, .f32⟩
  | 75 => ⟨S8192x3, .f32⟩
  | 76 => ⟨S_, .f32⟩
  | 77 => ⟨S8192x3, .f32⟩
  | 78 => ⟨S8192x3, .f32⟩
  | 79 => ⟨S8192x3, .f32⟩
  | 80 => ⟨S_, .i32⟩
  | 81 => ⟨S131072, .i32⟩
  | 82 => ⟨S131072, .i1⟩
  | 83 => ⟨S_, .i32⟩
  | 84 => ⟨S131072, .i32⟩
  | 85 => ⟨S131072, .i32⟩
  | 86 => ⟨S131072, .i32⟩
  | 87 => ⟨S131072x1, .i32⟩
  | 88 => ⟨S131072x3, .f32⟩
  | 89 => ⟨S_, .i32⟩
  | 90 => ⟨S131072, .i32⟩
  | 91 => ⟨S131072, .i1⟩
  | 92 => ⟨S_, .i32⟩
  | 93 => ⟨S131072, .i32⟩
  | 94 => ⟨S131072, .i32⟩
  | 95 => ⟨S131072, .i32⟩
  | 96 => ⟨S131072x1, .i32⟩
  | 97 => ⟨S131072x3, .f32⟩
  | 98 => ⟨S131072x3, .f32⟩
  | 99 => ⟨S_, .f32⟩
  | 100 => ⟨S131072x3, .f32⟩
  | 101 => ⟨S131072x3, .f32⟩
  | 102 => ⟨S_, .f32⟩
  | 103 => ⟨S131072x3, .f32⟩
  | 104 => ⟨S131072x3, .f32⟩
  | 105 => ⟨S131072x3, .i32⟩
  | 106 => ⟨S131072x1, .i32⟩
  | 107 => ⟨S131072, .i32⟩
  | 108 => ⟨S_, .i32⟩
  | 109 => ⟨S131072, .i32⟩
  | 110 => ⟨S131072, .i1⟩
  | 111 => ⟨S_, .i32⟩
  | 112 => ⟨S131072, .i32⟩
  | 113 => ⟨S131072, .i32⟩
  | 114 => ⟨S131072, .i32⟩
  | 115 => ⟨S_, .i32⟩
  | 116 => ⟨S131072, .i32⟩
  | 117 => ⟨S131072, .i32⟩
  | 118 => ⟨S131072x1, .i32⟩
  | 119 => ⟨S131072x1, .i32⟩
  | 120 => ⟨S131072x2, .i32⟩
  | 121 => ⟨S131072x6x32, .f32⟩
  | 122 => ⟨S131072x1, .i32⟩
  | 123 => ⟨S131072, .i32⟩
  | 124 => ⟨S_, .i32⟩
  | 125 => ⟨S131072, .i32⟩
  | 126 => ⟨S131072, .i1⟩
  | 127 => ⟨S_, .i32⟩
  | _ => ⟨S8192x192, .f32⟩

abbrev hbmTy0_1 (i : Nat) : BufTy := match i % 128 with
  | 0 => ⟨S131072, .i32⟩
  | 1 => ⟨S131072, .i32⟩
  | 2 => ⟨S131072, .i32⟩
  | 3 => ⟨S_, .i32⟩
  | 4 => ⟨S131072, .i32⟩
  | 5 => ⟨S131072, .i32⟩
  | 6 => ⟨S131072x1, .i32⟩
  | 7 => ⟨S131072x1, .i32⟩
  | 8 => ⟨S131072x2, .i32⟩
  | 9 => ⟨S131072x6x32, .f32⟩
  | 10 => ⟨S131072x6x32, .f32⟩
  | 11 => ⟨S131072x1, .i32⟩
  | 12 => ⟨S131072, .i32⟩
  | 13 => ⟨S_, .i32⟩
  | 14 => ⟨S131072, .i32⟩
  | 15 => ⟨S131072, .i1⟩
  | 16 => ⟨S_, .i32⟩
  | 17 => ⟨S131072, .i32⟩
  | 18 => ⟨S131072, .i32⟩
  | 19 => ⟨S131072, .i32⟩
  | 20 => ⟨S_, .i32⟩
  | 21 => ⟨S131072, .i32⟩
  | 22 => ⟨S131072, .i32⟩
  | 23 => ⟨S131072x1, .i32⟩
  | 24 => ⟨S131072x1, .i32⟩
  | 25 => ⟨S131072x2, .i32⟩
  | 26 => ⟨S131072x6x32, .f32⟩
  | 27 => ⟨S131072x6x32, .f32⟩
  | 28 => ⟨S131072x1, .i32⟩
  | 29 => ⟨S131072, .i32⟩
  | 30 => ⟨S_, .i32⟩
  | 31 => ⟨S131072, .i32⟩
  | 32 => ⟨S131072, .i1⟩
  | 33 => ⟨S_, .i32⟩
  | 34 => ⟨S131072, .i32⟩
  | 35 => ⟨S131072, .i32⟩
  | 36 => ⟨S131072, .i32⟩
  | 37 => ⟨S_, .i32⟩
  | 38 => ⟨S131072, .i32⟩
  | 39 => ⟨S131072, .i32⟩
  | 40 => ⟨S131072x1, .i32⟩
  | 41 => ⟨S131072x1, .i32⟩
  | 42 => ⟨S131072x2, .i32⟩
  | 43 => ⟨S131072x6x32, .f32⟩
  | 44 => ⟨S131072x1, .i32⟩
  | 45 => ⟨S131072, .i32⟩
  | 46 => ⟨S_, .i32⟩
  | 47 => ⟨S131072, .i32⟩
  | 48 => ⟨S131072, .i1⟩
  | 49 => ⟨S_, .i32⟩
  | 50 => ⟨S131072, .i32⟩
  | 51 => ⟨S131072, .i32⟩
  | 52 => ⟨S131072, .i32⟩
  | 53 => ⟨S_, .i32⟩
  | 54 => ⟨S131072, .i32⟩
  | 55 => ⟨S131072, .i32⟩
  | 56 => ⟨S131072x1, .i32⟩
  | 57 => ⟨S131072x1, .i32⟩
  | 58 => ⟨S131072x2, .i32⟩
  | 59 => ⟨S131072x6x32, .f32⟩
  | 60 => ⟨S131072x6x32, .f32⟩
  | 61 => ⟨S131072x1, .i32⟩
  | 62 => ⟨S131072, .i32⟩
  | 63 => ⟨S_, .i32⟩
  | 64 => ⟨S131072, .i32⟩
  | 65 => ⟨S131072, .i1⟩
  | 66 => ⟨S_, .i32⟩
  | 67 => ⟨S131072, .i32⟩
  | 68 => ⟨S131072, .i32⟩
  | 69 => ⟨S131072, .i32⟩
  | 70 => ⟨S_, .i32⟩
  | 71 => ⟨S131072, .i32⟩
  | 72 => ⟨S131072, .i32⟩
  | 73 => ⟨S131072x1, .i32⟩
  | 74 => ⟨S131072x1, .i32⟩
  | 75 => ⟨S131072x2, .i32⟩
  | 76 => ⟨S131072x6x32, .f32⟩
  | 77 => ⟨S131072x6x32, .f32⟩
  | 78 => ⟨S131072x6, .f32⟩
  | 79 => ⟨S131072x6, .f32⟩
  | 80 => ⟨S131072x6, .f32⟩
  | 81 => ⟨S131072x6, .f32⟩
  | 82 => ⟨S1x131072, .i32⟩
  | 83 => ⟨S8192, .i32⟩
  | 84 => ⟨S8192x1, .i32⟩
  | 85 => ⟨S8192x131072, .i32⟩
  | 86 => ⟨S8192x131072, .i32⟩
  | 87 => ⟨S8192x131072, .i1⟩
  | 88 => ⟨S8192x131072x1, .i1⟩
  | 89 => ⟨S1x131072x6, .f32⟩
  | 90 => ⟨S_, .f32⟩
  | 91 => ⟨S_, .f32⟩
  | 92 => ⟨S8192x131072x6, .i1⟩
  | 93 => ⟨S8192x131072x6, .f32⟩
  | 94 => ⟨S8192x131072x6, .f32⟩
  | 95 => ⟨S8192x131072x6, .f32⟩
  | 96 => ⟨S_, .f32⟩
  | 97 => ⟨S8192x6, .f32⟩
  | 98 => ⟨S_, .i32⟩
  | 99 => ⟨S131072, .i32⟩
  | 100 => ⟨S131072, .i1⟩
  | 101 => ⟨S_, .i32⟩
  | 102 => ⟨S131072, .i32⟩
  | 103 => ⟨S131072, .i32⟩
  | 104 => ⟨S131072, .i32⟩
  | 105 => ⟨S131072x1, .i32⟩
  | 106 => ⟨S131072x6, .f32⟩
  | 107 => ⟨S131072x6, .f32⟩
  | 108 => ⟨S131072x6, .f32⟩
  | 109 => ⟨S_, .f32⟩
  | 110 => ⟨S8192x6, .f32⟩
  | 111 => ⟨S131072x1, .i32⟩
  | 112 => ⟨S8192x6, .f32⟩
  | 113 => ⟨S_, .i32⟩
  | 114 => ⟨S131072, .i32⟩
  | 115 => ⟨S131072, .i1⟩
  | 116 => ⟨S_, .i32⟩
  | 117 => ⟨S131072, .i32⟩
  | 118 => ⟨S131072, .i32⟩
  | 119 => ⟨S131072, .i32⟩
  | 120 => ⟨S131072x1, .i32⟩
  | 121 => ⟨S131072x6, .f32⟩
  | 122 => ⟨S131072x6, .f32⟩
  | 123 => ⟨S131072x1, .i32⟩
  | 124 => ⟨S131072, .i32⟩
  | 125 => ⟨S_, .i32⟩
  | 126 => ⟨S131072, .i32⟩
  | 127 => ⟨S131072, .i1⟩
  | _ => ⟨S8192x192, .f32⟩

abbrev hbmTy0_2 (i : Nat) : BufTy := match i % 128 with
  | 0 => ⟨S_, .i32⟩
  | 1 => ⟨S131072, .i32⟩
  | 2 => ⟨S131072, .i32⟩
  | 3 => ⟨S131072, .i32⟩
  | 4 => ⟨S_, .i32⟩
  | 5 => ⟨S131072, .i32⟩
  | 6 => ⟨S131072, .i32⟩
  | 7 => ⟨S131072x1, .i32⟩
  | 8 => ⟨S131072x1, .i32⟩
  | 9 => ⟨S131072x2, .i32⟩
  | 10 => ⟨S131072x6x32, .f32⟩
  | 11 => ⟨S131072x1, .i32⟩
  | 12 => ⟨S131072, .i32⟩
  | 13 => ⟨S_, .i32⟩
  | 14 => ⟨S131072, .i32⟩
  | 15 => ⟨S131072, .i1⟩
  | 16 => ⟨S_, .i32⟩
  | 17 => ⟨S131072, .i32⟩
  | 18 => ⟨S131072, .i32⟩
  | 19 => ⟨S131072, .i32⟩
  | 20 => ⟨S_, .i32⟩
  | 21 => ⟨S131072, .i32⟩
  | 22 => ⟨S131072, .i32⟩
  | 23 => ⟨S131072x1, .i32⟩
  | 24 => ⟨S131072x1, .i32⟩
  | 25 => ⟨S131072x2, .i32⟩
  | 26 => ⟨S131072x6x32, .f32⟩
  | 27 => ⟨S131072x6x32, .f32⟩
  | 28 => ⟨S131072x1, .i32⟩
  | 29 => ⟨S131072, .i32⟩
  | 30 => ⟨S_, .i32⟩
  | 31 => ⟨S131072, .i32⟩
  | 32 => ⟨S131072, .i1⟩
  | 33 => ⟨S_, .i32⟩
  | 34 => ⟨S131072, .i32⟩
  | 35 => ⟨S131072, .i32⟩
  | 36 => ⟨S131072, .i32⟩
  | 37 => ⟨S_, .i32⟩
  | 38 => ⟨S131072, .i32⟩
  | 39 => ⟨S131072, .i32⟩
  | 40 => ⟨S131072x1, .i32⟩
  | 41 => ⟨S131072x1, .i32⟩
  | 42 => ⟨S131072x2, .i32⟩
  | 43 => ⟨S131072x6x32, .f32⟩
  | 44 => ⟨S131072x6x32, .f32⟩
  | 45 => ⟨S_, .i32⟩
  | 46 => ⟨S131072, .i32⟩
  | 47 => ⟨S131072, .i1⟩
  | 48 => ⟨S_, .i32⟩
  | 49 => ⟨S131072, .i32⟩
  | 50 => ⟨S131072, .i32⟩
  | 51 => ⟨S131072, .i32⟩
  | 52 => ⟨S131072x1, .i32⟩
  | 53 => ⟨S131072x6x32, .f32⟩
  | 54 => ⟨S131072x6x32, .f32⟩
  | 55 => ⟨S131072x6x1, .f32⟩
  | 56 => ⟨S131072x6x32, .f32⟩
  | 57 => ⟨S131072x6x32, .f32⟩
  | 58 => ⟨S_, .f32⟩
  | 59 => ⟨S8192x6x32, .f32⟩
  | 60 => ⟨S131072x1, .i32⟩
  | 61 => ⟨S8192x6x32, .f32⟩
  | 62 => ⟨S8192x192, .f32⟩
  | 63 => ⟨S192x192, .f32⟩
  | 64 => ⟨S8192x192, .f32⟩
  | 65 => ⟨S1x192, .f32⟩
  | 66 => ⟨S8192x192, .f32⟩
  | 67 => ⟨S8192x192, .f32⟩
  | _ => ⟨S8192x192, .f32⟩

abbrev hbmTy (i : Nat) : BufTy := match i / 128 with
  | 0 => hbmTy0_0 i
  | 1 => hbmTy0_1 i
  | 2 => hbmTy0_2 i
  | _ => ⟨S8192x192, .f32⟩

abbrev bufTy : (tb : Table) → Fin (tcTables nBuf tb) → BufTy
  | .hbm, ⟨i, _⟩ => hbmTy i
  | _, _ => ⟨S8192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_1 : Ref sig .tc := ⟨.hbm, 40, rfl⟩
abbrev main_v23 : Ref sig .tc := ⟨.hbm, 41, rfl⟩
abbrev main_v24 : Ref sig .tc := ⟨.hbm, 42, rfl⟩
abbrev main_c_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_cst : Ref sig .tc := ⟨.hbm, 62, rfl⟩
abbrev main_call0_v3 : Ref sig .tc := ⟨.hbm, 63, rfl⟩
abbrev main_call0_v4 : Ref sig .tc := ⟨.hbm, 64, rfl⟩
abbrev main_call0_cst_0 : Ref sig .tc := ⟨.hbm, 65, rfl⟩
abbrev main_call0_v5 : Ref sig .tc := ⟨.hbm, 66, rfl⟩
abbrev main_call0_v6 : Ref sig .tc := ⟨.hbm, 67, rfl⟩
abbrev main_call0_cst_1 : Ref sig .tc := ⟨.hbm, 68, rfl⟩
abbrev main_call0_v7 : Ref sig .tc := ⟨.hbm, 69, rfl⟩
abbrev main_call0_v8 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_v12 : Ref sig .tc := ⟨.hbm, 74, rfl⟩
abbrev main_v38 : Ref sig .tc := ⟨.hbm, 75, rfl⟩
abbrev main_cst_5 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_c_6 : Ref sig .tc := ⟨.hbm, 80, rfl⟩
abbrev main_v42 : Ref sig .tc := ⟨.hbm, 81, rfl⟩
abbrev main_v43 : Ref sig .tc := ⟨.hbm, 82, rfl⟩
abbrev main_c_7 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_c_8 : Ref sig .tc := ⟨.hbm, 89, rfl⟩
abbrev main_v49 : Ref sig .tc := ⟨.hbm, 90, rfl⟩
abbrev main_v50 : Ref sig .tc := ⟨.hbm, 91, rfl⟩
abbrev main_c_9 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_cst_10 : Ref sig .tc := ⟨.hbm, 99, rfl⟩
abbrev main_v57 : Ref sig .tc := ⟨.hbm, 100, rfl⟩
abbrev main_v58 : Ref sig .tc := ⟨.hbm, 101, rfl⟩
abbrev main_cst_11 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_c_12 : Ref sig .tc := ⟨.hbm, 108, rfl⟩
abbrev main_v64 : Ref sig .tc := ⟨.hbm, 109, rfl⟩
abbrev main_v65 : Ref sig .tc := ⟨.hbm, 110, rfl⟩
abbrev main_c_13 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_c_14 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_c_15 : Ref sig .tc := ⟨.hbm, 124, rfl⟩
abbrev main_v77 : Ref sig .tc := ⟨.hbm, 125, rfl⟩
abbrev main_v78 : Ref sig .tc := ⟨.hbm, 126, rfl⟩
abbrev main_c_16 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_c_17 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_c_18 : Ref sig .tc := ⟨.hbm, 141, rfl⟩
abbrev main_v91 : Ref sig .tc := ⟨.hbm, 142, rfl⟩
abbrev main_v92 : Ref sig .tc := ⟨.hbm, 143, rfl⟩
abbrev main_c_19 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_c_20 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_c_21 : Ref sig .tc := ⟨.hbm, 158, rfl⟩
abbrev main_v105 : Ref sig .tc := ⟨.hbm, 159, rfl⟩
abbrev main_v106 : Ref sig .tc := ⟨.hbm, 160, rfl⟩
abbrev main_c_22 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_c_23 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_c_24 : Ref sig .tc := ⟨.hbm, 174, rfl⟩
abbrev main_v118 : Ref sig .tc := ⟨.hbm, 175, rfl⟩
abbrev main_v119 : Ref sig .tc := ⟨.hbm, 176, rfl⟩
abbrev main_c_25 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_c_26 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_c_27 : Ref sig .tc := ⟨.hbm, 191, rfl⟩
abbrev main_v132 : Ref sig .tc := ⟨.hbm, 192, rfl⟩
abbrev main_v133 : Ref sig .tc := ⟨.hbm, 193, rfl⟩
abbrev main_c_28 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_c_29 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_cst_30 : Ref sig .tc := ⟨.hbm, 218, rfl⟩
abbrev main_call1_v0 : Ref sig .tc := ⟨.hbm, 219, rfl⟩
abbrev main_call1_v1 : Ref sig .tc := ⟨.hbm, 220, rfl⟩
abbrev main_call1_v2 : Ref sig .tc := ⟨.hbm, 221, rfl⟩
abbrev main_call1_v3 : Ref sig .tc := ⟨.hbm, 222, rfl⟩
abbrev main_v156 : Ref sig .tc := ⟨.hbm, 223, rfl⟩
abbrev main_cst_31 : Ref sig .tc := ⟨.hbm, 224, rfl⟩
abbrev main_v157 : Ref sig .tc := ⟨.hbm, 225, rfl⟩
abbrev main_c_32 : Ref sig .tc := ⟨.hbm, 226, rfl⟩
abbrev main_v158 : Ref sig .tc := ⟨.hbm, 227, rfl⟩
abbrev main_v159 : Ref sig .tc := ⟨.hbm, 228, rfl⟩
abbrev main_c_33 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_cst_34 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_c_35 : Ref sig .tc := ⟨.hbm, 241, rfl⟩
abbrev main_v170 : Ref sig .tc := ⟨.hbm, 242, rfl⟩
abbrev main_v171 : Ref sig .tc := ⟨.hbm, 243, rfl⟩
abbrev main_c_36 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_c_37 : Ref sig .tc := ⟨.hbm, 253, rfl⟩
abbrev main_v180 : Ref sig .tc := ⟨.hbm, 254, rfl⟩
abbrev main_v181 : Ref sig .tc := ⟨.hbm, 255, rfl⟩
abbrev main_c_38 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_c_39 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_c_40 : Ref sig .tc := ⟨.hbm, 269, rfl⟩
abbrev main_v193 : Ref sig .tc := ⟨.hbm, 270, rfl⟩
abbrev main_v194 : Ref sig .tc := ⟨.hbm, 271, rfl⟩
abbrev main_c_41 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_c_42 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩
abbrev main_v204 : Ref sig .tc := ⟨.hbm, 283, rfl⟩
abbrev main_v205 : Ref sig .tc := ⟨.hbm, 284, rfl⟩
abbrev main_v206 : Ref sig .tc := ⟨.hbm, 285, rfl⟩
abbrev main_c_43 : Ref sig .tc := ⟨.hbm, 286, rfl⟩
abbrev main_v207 : Ref sig .tc := ⟨.hbm, 287, rfl⟩
abbrev main_v208 : Ref sig .tc := ⟨.hbm, 288, rfl⟩
abbrev main_c_44 : Ref sig .tc := ⟨.hbm, 289, rfl⟩
abbrev main_v209 : Ref sig .tc := ⟨.hbm, 290, rfl⟩
abbrev main_v210 : Ref sig .tc := ⟨.hbm, 291, rfl⟩
abbrev main_v211 : Ref sig .tc := ⟨.hbm, 292, rfl⟩
abbrev main_c_45 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_c_46 : Ref sig .tc := ⟨.hbm, 301, rfl⟩
abbrev main_v219 : Ref sig .tc := ⟨.hbm, 302, rfl⟩
abbrev main_v220 : Ref sig .tc := ⟨.hbm, 303, rfl⟩
abbrev main_c_47 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_cst_48 : Ref sig .tc := ⟨.hbm, 314, rfl⟩
abbrev main_v230 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_v238 : Ref sig .tc := ⟨.hbm, 323, rfl⟩

abbrev nD : Nat := 1
abbrev τ : Topo := Topo.v7x

variable {F : FTy → Type} [FloatOps F]
-- ==== Proof.Cell.lean ====
module

public import Idealize.ShloMosaic.PureOps.Ideal
public import Idealize.ShloMosaic.PureOps.Ideal.Laws

@[expose] public section

noncomputable section

open Idealize.ShloMosaic

/-! The cell of a coordinate: the quantized position of a point inside its window, a number below sixteen. -/

namespace WinAttn

/-- The pattern of `4.0` denotes 4. -/
theorem ofBits_four : Ideal.ofBits .f32 0x40800000#32 = ((4 : ℝ) : EReal) := by
  simp [Ideal.ofBits, Ideal.ieee, -EReal.coe_mul]; norm_num

/-- The pattern of `0.25` denotes a quarter. -/
theorem ofBits_quarter : Ideal.ofBits .f32 0x3E800000#32 = ((1 / 4 : ℝ) : EReal) := by
  simp [Ideal.ofBits, Ideal.ieee, -EReal.coe_mul]; norm_num

/-- The pattern of `15.0` denotes 15. -/
theorem ofBits_fifteen : Ideal.ofBits .f32 0x41700000#32 = ((15 : ℝ) : EReal) := by
  simp [Ideal.ofBits, Ideal.ieee, -EReal.coe_mul]; norm_num

/-- The pattern of `16.0` denotes 16. -/
theorem ofBits_sixteen : Ideal.ofBits .f32 0x41800000#32 = ((16 : ℝ) : EReal) := by
  simp [Ideal.ofBits, Ideal.ieee, -EReal.coe_mul]; norm_num

/-- The pattern of `1.0` denotes 1. -/
theorem ofBits_one : Ideal.ofBits .f32 0x3F800000#32 = ((1 : ℝ) : EReal) := by
  simp [Ideal.ofBits, Ideal.ieee, -EReal.coe_mul]; norm_num

/-- The pattern of `32.0` denotes 32. -/
theorem ofBits_thirtytwo : Ideal.ofBits .f32 0x42000000#32 = ((32 : ℝ) : EReal) := by
  simp [Ideal.ofBits, Ideal.ieee, -EReal.coe_mul]; norm_num

/-- The pattern of `-∞` denotes the bottom. -/
theorem ofBits_bot : Ideal.ofBits .f32 0xFF800000#32 = (⊥ : EReal) := by
  simp [Ideal.ofBits, Ideal.ieee]

/-- The pattern of `+∞` denotes the top. -/
theorem ofBits_top : Ideal.ofBits .f32 0x7F800000#32 = (⊤ : EReal) := by
  simp [Ideal.ofBits, Ideal.ieee]

/-- The remainder of `x` by 4 with the sign of `x`. -/
def rem4 (x : ℝ) : ℝ := x - 4 * (Ideal.truncInt (x / 4) : ℝ)

/-- The remainder of `x` by 4 that is not negative. -/
def mod4 (x : ℝ) : ℝ := if rem4 x < 0 then rem4 x + 4 else rem4 x

/-- The truncating remainder lies strictly between -4 and 4. -/
theorem rem4_range (x : ℝ) : -4 < rem4 x ∧ rem4 x < 4 := by
  unfold rem4 Ideal.truncInt
  split
  · have h1 := Int.floor_le (x / 4)
    have h2 := Int.lt_floor_add_one (x / 4)
    constructor <;> linarith
  · have h1 := Int.le_ceil (x / 4)
    have h2 := Int.ceil_lt_add_one (x / 4)
    constructor <;> linarith

/-- The remainder lies in `[0, 4)`. -/
theorem mod4_range (x : ℝ) : 0 ≤ mod4 x ∧ mod4 x < 4 := by
  have h := rem4_range x
  unfold mod4
  split
  · constructor <;> linarith
  · constructor <;> linarith

/-- The cell of a coordinate. -/
def cell (x : ℝ) : ℕ := (⌊mod4 x * (1 / 4)⁻¹⌋).toNat

/-- A cell is below sixteen. -/
theorem cell_lt (x : ℝ) : cell x < 16 := by
  have h := mod4_range x
  have : ⌊mod4 x * (1 / 4)⁻¹⌋ < 16 := by
    rw [Int.floor_lt]; push_cast; norm_num; linarith
  unfold cell; omega

/-- The floor whose value the cell is. -/
theorem cell_floor (x : ℝ) : ((⌊mod4 x * (1 / 4)⁻¹⌋ : ℤ) : ℝ) = (cell x : ℝ) := by
  have h := mod4_range x
  have h0 : 0 ≤ ⌊mod4 x * (1 / 4)⁻¹⌋ := Int.floor_nonneg.2 (by
    have : (0 : ℝ) ≤ (1 / 4)⁻¹ := by norm_num
    exact mul_nonneg h.1 this)
  have : ((cell x : ℕ) : ℤ) = ⌊mod4 x * (1 / 4)⁻¹⌋ := by unfold cell; omega
  rw [← this]; simp

/-- The ideal remainder of a real by 4. -/
theorem remf_four (x : ℝ) : Ideal.remf (x : EReal) ((4 : ℝ) : EReal) = ((rem4 x : ℝ) : EReal) := by
  show (if (4 : ℝ) = 0 then (⊥ : EReal) else ((x - 4 * (Ideal.truncInt (x / 4) : ℝ) : ℝ) : EReal)) = _
  rw [if_neg (by norm_num)]; rfl

/-- The floor of the quotient by a quarter. -/
theorem floor_quarter (y : ℝ) : Ideal.liftRound Int.floor (Ideal.div (y : EReal) ((1 / 4 : ℝ) : EReal))
    = (((⌊y * (1 / 4)⁻¹⌋ : ℤ) : ℝ) : EReal) := by
  have h : Ideal.div (y : EReal) ((1 / 4 : ℝ) : EReal) = ((y * (1 / 4)⁻¹ : ℝ) : EReal) := by
    unfold Ideal.div
    rw [if_neg (by rw [← EReal.coe_zero]; intro h; have := EReal.coe_eq_coe_iff.1 h; norm_num at this), ← EReal.coe_inv, ← EReal.coe_mul]
  rw [h]; rfl

/-- The order of the reals as the ideal compare reads it. -/
theorem cmp_olt_coe (x y : ℝ) : Ideal.cmp .olt (x : EReal) (y : EReal) = if x < y then 1#1 else 0#1 := by
  simp only [Ideal.cmp, EReal.coe_lt_coe_iff]
  by_cases h : x < y <;> simp [h]

/-- The reference's remainder: the truncating one, with 4 added where its sign differs from 4's. -/
theorem pymod_host (x : ℝ) :
    Scalar.select (IntOp.andi (IntOp.cmpi .ne (Ideal.cmp .olt (Ideal.remf (x : EReal) ((4 : ℝ) : EReal)) 0)
        (Ideal.cmp .olt ((4 : ℝ) : EReal) 0)) (Ideal.cmp .une (Ideal.remf (x : EReal) ((4 : ℝ) : EReal)) 0))
      (Ideal.remf (x : EReal) ((4 : ℝ) : EReal) + ((4 : ℝ) : EReal)) (Ideal.remf (x : EReal) ((4 : ℝ) : EReal))
      = ((mod4 x : ℝ) : EReal) := by
  rw [remf_four]
  unfold mod4
  rw [← EReal.coe_zero, cmp_olt_coe, cmp_olt_coe]
  by_cases h : rem4 x < 0
  · have hne : rem4 x ≠ 0 := ne_of_lt h
    have hu : Ideal.cmp .une ((rem4 x : ℝ) : EReal) ((0 : ℝ) : EReal) = 1#1 := by
      simp [Ideal.cmp, hne]
    rw [hu]
    simp only [h, if_true, show ¬ ((4 : ℝ) < 0) by norm_num, if_false]
    show Scalar.select 1#1 _ _ = _
    rw [EReal.coe_add]; rfl
  · simp only [h, show ¬ ((4 : ℝ) < 0) by norm_num, if_false]
    have : IntOp.andi (IntOp.cmpi .ne (0#1) (0#1)) (Ideal.cmp .une ((rem4 x : ℝ) : EReal) ((0 : ℝ) : EReal)) = 0#1 := by
      show 0#1 &&& _ = 0#1
      simp
    rw [this]; rfl

/-- The kernel's remainder, whose two signs meet by an exclusive or. -/
theorem pymod_kernel (x : ℝ) :
    Scalar.select (IntOp.andi (IntOp.xori (Ideal.cmp .olt (Ideal.remf (x : EReal) ((4 : ℝ) : EReal)) 0)
        (Ideal.cmp .olt ((4 : ℝ) : EReal) 0)) (Ideal.cmp .one (Ideal.remf (x : EReal) ((4 : ℝ) : EReal)) 0))
      (Ideal.remf (x : EReal) ((4 : ℝ) : EReal) + ((4 : ℝ) : EReal)) (Ideal.remf (x : EReal) ((4 : ℝ) : EReal))
      = ((mod4 x : ℝ) : EReal) := by
  rw [remf_four]
  unfold mod4
  rw [← EReal.coe_zero, cmp_olt_coe, cmp_olt_coe]
  by_cases h : rem4 x < 0
  · have hne : rem4 x ≠ 0 := ne_of_lt h
    have hu : Ideal.cmp .one ((rem4 x : ℝ) : EReal) ((0 : ℝ) : EReal) = 1#1 := by
      simp [Ideal.cmp, hne]
    rw [hu]
    simp only [h, if_true, show ¬ ((4 : ℝ) < 0) by norm_num, if_false]
    show Scalar.select 1#1 _ _ = _
    rw [EReal.coe_add]; rfl
  · simp only [h, show ¬ ((4 : ℝ) < 0) by norm_num, if_false]
    have : IntOp.andi (IntOp.xori (0#1) (0#1)) (Ideal.cmp .one ((rem4 x : ℝ) : EReal) ((0 : ℝ) : EReal)) = 0#1 := by
      show 0#1 &&& _ = 0#1
      simp
    rw [this]; rfl

/-- A small nonnegative real that is a natural number becomes the word of that number. -/
theorem fptosi_nat (k : ℕ) (hk : k < 2 ^ 31) : Ideal.fptosi 32 ((k : ℝ) : EReal) = BitVec.ofNat 32 k := by
  unfold Ideal.fptosi
  rw [Ideal.toIntClamped_coe]
  rw [if_pos (by positivity), Int.floor_natCast]
  have h1 : max (-((2 ^ (32 - 1) : ℕ) : ℤ)) (min (((2 ^ (32 - 1) : ℕ) : ℤ) - 1) (k : ℤ)) = (k : ℤ) := by
    norm_num; omega
  rw [h1]
  exact BitVec.ofInt_natCast 32 k

end WinAttn

end
-- ==== Proof.Alg.lean ====
module

public import proofs.«01_k».proof.Proof.Cell
public import Mathlib.Algebra.BigOperators.Fin

@[expose] public section

noncomputable section

open Idealize.ShloMosaic

/-! The algebra of the two programs: one-hot sums, the two groupings of a logit, and the softmax with and without
the subtracted maximum. -/

namespace WinAttn

/-- A sum of reals embedded in the extended reals. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The column of head `h` and lane `d`. -/
def hd (h : Fin 6) (d : Fin 32) : Fin 192 := ⟨h.val * 32 + d.val, by omega⟩

/-- The column of axis `a` and table row `r`. -/
def ar (a : Fin 3) (r : Fin 64) : Fin 192 := ⟨a.val * 64 + r.val, by omega⟩

/-- A sum over the columns, head by head. -/
theorem sum_hd {M : Type*} [AddCommMonoid M] (f : Fin 192 → M) : ∑ c, f c = ∑ h : Fin 6, ∑ d : Fin 32, f (hd h d) := by
  rw [← Fintype.sum_prod_type']
  refine (Fintype.sum_equiv (finProdFinEquiv (m := 6) (n := 32)) (fun p => f (hd p.1 p.2)) f fun p => ?_).symm
  refine congrArg f (Fin.ext ?_)
  show p.1.val * 32 + p.2.val = p.2.val + 32 * p.1.val
  omega

/-- A sum over the columns, axis by axis. -/
theorem sum_ar {M : Type*} [AddCommMonoid M] (f : Fin 192 → M) : ∑ c, f c = ∑ a : Fin 3, ∑ r : Fin 64, f (ar a r) := by
  rw [← Fintype.sum_prod_type']
  refine (Fintype.sum_equiv (finProdFinEquiv (m := 3) (n := 64)) (fun p => f (ar p.1 p.2)) f fun p => ?_).symm
  refine congrArg f (Fin.ext ?_)
  show p.1.val * 64 + p.2.val = p.2.val + 64 * p.1.val
  omega

/-- One or zero, as a condition says. -/
def ind (p : Prop) [Decidable p] : EReal := if p then 1 else 0

/-- A one-hot sum picks its term. -/
theorem sum_ind {ι : Type*} [Fintype ι] [DecidableEq ι] (i : ι) (f : ι → EReal) :
    ∑ j, f j * ind (j = i) = f i := by
  rw [Finset.sum_eq_single i]
  · simp [ind]
  · intro j _ hj; simp [ind, hj]
  · intro h; exact absurd (Finset.mem_univ i) h

/-- The columns of one head, summed through the head's mask. -/
theorem sum_head (f : Fin 192 → EReal) (h : Fin 6) :
    ∑ c : Fin 192, f c * ind (c.val / 32 = h.val) = ∑ d : Fin 32, f (hd h d) := by
  rw [sum_hd, Finset.sum_eq_single h]
  · refine Finset.sum_congr rfl fun d _ => ?_
    have : (hd h d).val / 32 = h.val := by show (h.val * 32 + d.val) / 32 = h.val; omega
    simp [ind, this]
  · intro h' _ hne
    refine Finset.sum_eq_zero fun d _ => ?_
    have : ¬ (hd h' d).val / 32 = h.val := by
      show ¬ (h'.val * 32 + d.val) / 32 = h.val
      intro e; apply hne; apply Fin.ext; omega
    simp [ind, this]
  · intro hn; exact absurd (Finset.mem_univ h) hn

/-- A head's value spread over the head's columns. -/
theorem sum_spread (f : Fin 6 → EReal) (c : Fin 192) :
    ∑ h : Fin 6, f h * ind (c.val / 32 = h.val) = f ⟨c.val / 32, by omega⟩ := by
  rw [← sum_ind (⟨c.val / 32, by omega⟩ : Fin 6) f]
  refine Finset.sum_congr rfl fun h _ => ?_
  congr 1
  unfold ind
  refine if_congr ?_ rfl rfl
  rw [Fin.ext_iff]; exact eq_comm

/-- The one-hot product with the stacked tables picks, for each axis, the row of that axis' offset. -/
theorem sum_onehot (rel : Fin 3 → ℕ) (hrel : ∀ a, rel a < 64) (t : Fin 192 → EReal) :
    ∑ m : Fin 192, ind (rel ⟨m.val / 64, by omega⟩ = m.val % 64) * t m = ∑ a : Fin 3, t (ar a ⟨rel a, hrel a⟩) := by
  rw [sum_ar]
  refine Finset.sum_congr rfl fun a _ => ?_
  rw [Finset.sum_eq_single (⟨rel a, hrel a⟩ : Fin 64)]
  · have h1 : (⟨(ar a ⟨rel a, hrel a⟩).val / 64, by omega⟩ : Fin 3) = a :=
      Fin.ext (by show (a.val * 64 + rel a) / 64 = a.val; have := hrel a; omega)
    have h2 : (ar a ⟨rel a, hrel a⟩).val % 64 = rel a := by
      show (a.val * 64 + rel a) % 64 = rel a; have := hrel a; omega
    rw [h1, h2]; simp [ind]
  · intro r _ hr
    have h1 : (⟨(ar a r).val / 64, by omega⟩ : Fin 3) = a :=
      Fin.ext (by show (a.val * 64 + r.val) / 64 = a.val; omega)
    have h2 : (ar a r).val % 64 = r.val := by show (a.val * 64 + r.val) % 64 = r.val; omega
    rw [h1, h2]
    have : ¬ rel a = r.val := fun e => hr (Fin.ext e.symm)
    simp [ind, this]
  · intro hn; exact absurd (Finset.mem_univ _) hn

/-- An extended real that is a real. -/
def IsReal (x : EReal) : Prop := ∃ r : ℝ, x = (r : EReal)

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A finite sum of reals is real. -/
theorem IsReal.sum {ι : Type*} {s : Finset ι} {f : ι → EReal} (h : ∀ i, IsReal (f i)) : IsReal (∑ i ∈ s, f i) := by
  choose g hg using h
  exact ⟨∑ i ∈ s, g i, by rw [coe_sum]; exact Finset.sum_congr rfl fun i _ => hg i⟩

/-- The absolute value of a real is below the top, and of no other extended real. -/
theorem isReal_of_abs_lt {x : EReal} (h : max x (-x) < ⊤) : IsReal x := by
  induction x using EReal.rec with
  | bot => simp at h
  | coe r => exact ⟨r, rfl⟩
  | top => simp at h

/-- The kernel groups a logit's products by lane, the reference by kind: on reals the sums agree. -/
theorem logit_eq {ι : Type*} [Fintype ι] (q k tq tk : ι → EReal) (hq : ∀ d, IsReal (q d)) (hk : ∀ d, IsReal (k d))
    (htq : ∀ d, IsReal (tq d)) (htk : ∀ d, IsReal (tk d)) :
    ∑ d, (q d * (k d + tq d) + k d * tk d) = ∑ d, q d * k d + (∑ d, q d * tq d + ∑ d, k d * tk d) := by
  choose q' hq using hq
  choose k' hk using hk
  choose tq' htq using htq
  choose tk' htk using htk
  simp only [hq, hk, htq, htk, ← EReal.coe_add, ← EReal.coe_mul, ← coe_sum]
  congr 1
  rw [← Finset.sum_add_distrib, ← Finset.sum_add_distrib]
  exact Finset.sum_congr rfl fun d _ => by ring

/-- The softmax of real logits: subtracting a real from every logit changes nothing. -/
theorem softmax_shift {ι : Type*} [Fintype ι] (L : ι → EReal) (M : EReal) (hL : ∀ j, IsReal (L j)) (hM : IsReal M) (i : ι) :
    Ideal.div (Ideal.exp (L i - M)) (0 + ∑ j, Ideal.exp (L j - M)) = Ideal.div (Ideal.exp (L i)) (∑ j, Ideal.exp (L j)) := by
  choose l hl using hL
  obtain ⟨m, rfl⟩ := hM
  have e : ∀ r : ℝ, Ideal.exp (r : EReal) = ((Real.exp r : ℝ) : EReal) := fun _ => rfl
  simp only [hl, ← EReal.coe_sub, e, ← coe_sum, zero_add]
  have p1 : (∑ j, Real.exp (l j - m)) ≠ 0 := ne_of_gt (Finset.sum_pos (fun j _ => Real.exp_pos _) ⟨i, Finset.mem_univ i⟩)
  have p2 : (∑ j, Real.exp (l j)) ≠ 0 := ne_of_gt (Finset.sum_pos (fun j _ => Real.exp_pos _) ⟨i, Finset.mem_univ i⟩)
  rw [Ideal.div_coe p1, Ideal.div_coe p2, ← EReal.coe_mul, ← EReal.coe_mul]
  congr 1
  have hs : ∑ j, Real.exp (l j - m) = (∑ j, Real.exp (l j)) * Real.exp (-m) := by
    rw [Finset.sum_mul]
    exact Finset.sum_congr rfl fun j _ => by rw [← Real.exp_add]; rfl
  have hi : Real.exp (l i - m) = Real.exp (l i) * Real.exp (-m) := by rw [← Real.exp_add]; rfl
  have hm : Real.exp (-m) ≠ 0 := (Real.exp_pos _).ne'
  rw [hs, hi]
  field_simp

end WinAttn

end
-- ==== Proof.Spec.lean ====
module

public import proofs.«01_k».proof.Proof.Alg

@[expose] public section

noncomputable section

open Idealize.ShloMosaic

/-! One point's attention over the sixteen points of its window, and its projection: what both programs compute. -/

namespace WinAttn

variable (q k v tq tk tv : Fin 16 → Fin 192 → EReal)

/-- The logit of partner `j` in head `h`: query against key, with the two relative position terms. -/
def logit (j : Fin 16) (h : Fin 6) : EReal :=
  ∑ d : Fin 32, (q j (hd h d) * (k j (hd h d) + tq j (hd h d)) + k j (hd h d) * tk j (hd h d))

/-- The weight of partner `j` in head `h`: the softmax of the logits over the window. -/
def soft (j : Fin 16) (h : Fin 6) : EReal :=
  Ideal.div (Ideal.exp (logit q k tq tk j h)) (∑ i : Fin 16, Ideal.exp (logit q k tq tk i h))

/-- The head of a column. -/
def headOf (c : Fin 192) : Fin 6 := ⟨c.val / 32, by omega⟩

/-- The weighted values in one column. -/
def mix (c : Fin 192) : EReal := ∑ j : Fin 16, soft q k tq tk j (headOf c) * (v j c + tv j c)

/-- One entry of the result: the weighted values against a row of the projection, and its offset. -/
def att (pw : Fin 192 → EReal) (pb : EReal) : EReal := ∑ c : Fin 192, mix q k v tq tk tv c * pw c + pb

/-- An entry depends on its data only through their values. -/
theorem att_congr {q k v tq tk tv q' k' v' tq' tk' tv' : Fin 16 → Fin 192 → EReal} {pw pw' : Fin 192 → EReal} {pb pb' : EReal}
    (hq : ∀ j c, q j c = q' j c) (hk : ∀ j c, k j c = k' j c) (hv : ∀ j c, v j c = v' j c) (htq : ∀ j c, tq j c = tq' j c)
    (htk : ∀ j c, tk j c = tk' j c) (htv : ∀ j c, tv j c = tv' j c) (hpw : ∀ c, pw c = pw' c) (hpb : pb = pb') :
    att q k v tq tk tv pw pb = att q' k' v' tq' tk' tv' pw' pb' := by
  obtain rfl : q = q' := funext fun j => funext fun c => hq j c
  obtain rfl : k = k' := funext fun j => funext fun c => hk j c
  obtain rfl : v = v' := funext fun j => funext fun c => hv j c
  obtain rfl : tq = tq' := funext fun j => funext fun c => htq j c
  obtain rfl : tk = tk' := funext fun j => funext fun c => htk j c
  obtain rfl : tv = tv' := funext fun j => funext fun c => htv j c
  obtain rfl : pw = pw' := funext hpw
  rw [hpb]

/-- The table row for the difference of two cells. -/
def rel (u v : ℕ) : ℕ := u + 15 - v

/-- The table row is inside the table. -/
theorem rel_lt {u v : ℕ} (hu : u < 16) : rel u v < 64 := by unfold rel; omega

/-- The table row, as the kernel counts it over the reals. -/
theorem rel_cast {u v : ℕ} (hv : v < 16) : ((u : ℝ) : EReal) - ((v : ℝ) : EReal) + ((15 : ℝ) : EReal) = ((rel u v : ℝ) : EReal) := by
  rw [← EReal.coe_sub, ← EReal.coe_add]
  unfold rel
  rw [Nat.cast_sub (by omega)]
  congr 1
  rw [Nat.cast_add, Nat.cast_ofNat]
  ring

/-- The partner of point `n` in place `j` of its window of sixteen. -/
def win (n : Fin 8192) (j : Fin 16) : Fin 8192 := ⟨n.val / 16 * 16 + j.val, by omega⟩

/-- Of the three groups of columns of the projected features, the query's. -/
def cq (c : Fin 192) : Fin 576 := ⟨c.val, by omega⟩
/-- The key's columns. -/
def ck (c : Fin 192) : Fin 576 := ⟨192 + c.val, by omega⟩
/-- The value's columns. -/
def cv (c : Fin 192) : Fin 576 := ⟨384 + c.val, by omega⟩

/-- A column's place in its head. -/
def dimOf (c : Fin 192) : Fin 32 := ⟨c.val % 32, by omega⟩

variable (F : Fin 8192 → Fin 192 → EReal) (W : Fin 576 → Fin 192 → EReal) (B : Fin 576 → EReal)

/-- The projected features. -/
def qkv (n : Fin 8192) (c : Fin 576) : EReal := ∑ d : Fin 192, F n d * W c d + B c

/-- A relative position term: one table row per axis, picked by the difference of the two points' cells. -/
def tab (T : Fin 64 → Fin 6 → Fin 32 → Fin 3 → EReal) (r : Fin 8192 → Fin 3 → ℝ) (n : Fin 8192) (j : Fin 16) (c : Fin 192) : EReal :=
  ∑ a : Fin 3, T ⟨rel (cell (r n a)) (cell (r (win n j) a)), rel_lt (cell_lt _)⟩ (headOf c) (dimOf c) a

/-- One entry of the result, from the arguments. -/
def result (P : Fin 192 → Fin 192 → EReal) (PB : Fin 192 → EReal) (TQ TK TV : Fin 64 → Fin 6 → Fin 32 → Fin 3 → EReal)
    (r : Fin 8192 → Fin 3 → ℝ) (n : Fin 8192) (o : Fin 192) : EReal :=
  att (fun _ c => qkv F W B n (cq c) * (((Real.sqrt 32)⁻¹ : ℝ) : EReal)) (fun j c => qkv F W B (win n j) (ck c))
    (fun j c => qkv F W B (win n j) (cv c)) (fun j c => tab TQ r n j c) (fun j c => tab TK r n j c) (fun j c => tab TV r n j c)
    (fun c => P o c) (PB o)

end WinAttn

end
-- ==== Proof.KBlock.lean ====
module

public import proofs.«01_k».proof.Proof.Spec
public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

/-! The kernel's payloads read at an index. -/

namespace WinAttn.Kern

open Cert.KernelIdeal Cert.KernelIdeal.Gen

/-- The pair row of point `p` of a block and its partner `j`. -/
abbrev row (p : Fin 512) (j : Fin 16) : Fin 8192 := ⟨p.val * 16 + j.val, by omega⟩

/-- Partner `j` of point `p` of a block. -/
def par (p : Fin 512) (j : Fin 16) : Fin 512 := ⟨p.val / 16 * 16 + j.val, by omega⟩

/-- The projected features of a block. -/
def bqkv (f : Vec Ideal S512x192 .f32) (w : Vec Ideal S192x576 .f32) (b : Vec Ideal S1x576 .f32) (p : Fin 512) (c : Fin 576) : EReal :=
  ∑ d : Fin 192, f (ix2 p d) * w (ix2 d c) + b (ix2 0 c)

/-- An entry of the block's projected features. -/
theorem pay2_at (f : Vec Ideal S512x192 .f32) (w : Vec Ideal S192x576 .f32) (b : Vec Ideal S1x576 .f32) (p : Fin 512) (c : Fin 576) :
    k0_pay2 f w b (ix2 p c) = bqkv f w b p c := by
  pointwise [k0_pay2, bqkv]

/-- The scale is the reciprocal of the root of 32. -/
theorem scale_val :
    Named.named (F := Ideal) Cert.KernelIdeal.κ "scale" (φ := .f32) 0x3E3504F3#32 = (((Real.sqrt 32)⁻¹ : ℝ) : EReal) :=
  IdealRules.named_const.ideal_named_scalar _ _ _ _ rfl

/-- A query entry, scaled. -/
theorem pay3_at (f : Vec Ideal S512x192 .f32) (w : Vec Ideal S192x576 .f32) (b : Vec Ideal S1x576 .f32) (p : Fin 512) (c : Fin 192) :
    k0_pay3 f w b (ix2 p c) = bqkv f w b p (cq c) * (((Real.sqrt 32)⁻¹ : ℝ) : EReal) := by
  rw [← scale_val, ← pay2_at]
  pointwise [k0_pay3]
  rfl

/-- A key entry. -/
theorem pay4_at (f : Vec Ideal S512x192 .f32) (w : Vec Ideal S192x576 .f32) (b : Vec Ideal S1x576 .f32) (p : Fin 512) (c : Fin 192) :
    k0_pay4 f w b (ix2 p c) = bqkv f w b p (ck c) := by
  rw [← pay2_at]
  pointwise [k0_pay4]
  rfl

/-- A value entry. -/
theorem pay5_at (f : Vec Ideal S512x192 .f32) (w : Vec Ideal S192x576 .f32) (b : Vec Ideal S1x576 .f32) (p : Fin 512) (c : Fin 192) :
    k0_pay5 f w b (ix2 p c) = bqkv f w b p (cv c) := by
  rw [← pay2_at]
  pointwise [k0_pay5]
  rfl

/-- A coordinate's cell. -/
theorem pay6_at (x : Vec Ideal S512x3 .f32) (o : Vec Ideal S1x3 .f32) (p : Fin 512) (a : Fin 3) (r : ℝ)
    (hr : x (ix2 p a) - o (ix2 0 a) = (r : EReal)) : k0_pay6 x o (ix2 p a) = ((cell r : ℝ) : EReal) := by
  rw [← cell_floor, ← floor_quarter, ← pymod_kernel, ← hr, ← ofBits_four, ← ofBits_quarter]
  pointwise [k0_pay6]
  try rfl

/-- A widened bit as a float is the indicator of its condition. -/
theorem sitofp_bool (p : Prop) [Decidable p] :
    FloatOps.sitofp (F := Ideal) FTy.f32 (BitVec.setWidth 32 (BitVec.ofBool (decide p))) = ind p := by
  show ((((BitVec.setWidth 32 (BitVec.ofBool (decide p))).toInt : ℤ) : ℝ) : EReal) = ind p
  unfold ind
  by_cases h : p <;> simp [h]

/-- The indicator that two small words agree. -/
theorem sitofp_eq (a b : ℕ) (ha : a < 2 ^ 32) (hb : b < 2 ^ 32) :
    FloatOps.sitofp (F := Ideal) FTy.f32 (BitVec.setWidth 32 (IntOp.cmpi CmpIPredicate.eq (BitVec.ofNat 32 a) (BitVec.ofNat 32 b)))
      = ind (a = b) := by
  have : IntOp.cmpi CmpIPredicate.eq (BitVec.ofNat 32 a) (BitVec.ofNat 32 b) = BitVec.ofBool (decide (a = b)) := by
    show BitVec.ofBool (BitVec.ofNat 32 a == BitVec.ofNat 32 b) = _
    congr 1
    by_cases h : a = b
    · simp [h]
    · have : BitVec.ofNat 32 a ≠ BitVec.ofNat 32 b := fun e => h (by
        have e' := congrArg BitVec.toNat e
        simp only [BitVec.toNat_ofNat, Nat.mod_eq_of_lt ha, Nat.mod_eq_of_lt hb] at e'
        exact e')
      simp [h, this]
  rw [this, sitofp_bool]

/-- The axis of a one-hot column. -/
theorem axis_word : ∀ c : Fin 192, Scalar.select
    (IntOp.andi
      (IntOp.cmpi CmpIPredicate.ne
        (IntOp.subi (BitVec.setWidth 32 (IntOp.cmpi CmpIPredicate.sgt (BitVec.ofNat 32 c.val) 0#32))
          (BitVec.setWidth 32 (IntOp.cmpi CmpIPredicate.slt (BitVec.ofNat 32 c.val) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 c.val) 64#32) 0#32))
    (IntOp.subi (IntOp.divsi ArithUnit.vector (BitVec.ofNat 32 c.val) 64#32) 1#32)
    (IntOp.divsi ArithUnit.vector (BitVec.ofNat 32 c.val) 64#32) = BitVec.ofNat 32 (c.val / 64) := by decide +kernel

/-- The head of a column, as a word. -/
theorem pay18_at (c : Fin 192) (h : Fin 6) : k0_pay18 (ix2 c h) = BitVec.ofNat 32 (c.val / 32) := by
  pointwise [k0_pay18]
  revert c
  decide +kernel

/-- The table row of a one-hot column. -/
theorem pay9_at (c : Fin 192) :
    k0_pay9 (F := Ideal) (iota .tc S1x192 32 [1] iota_S1x192_d1_w32) (ix2 0 c) = (((c.val % 64 : ℕ) : ℝ) : EReal) := by
  pointwise [k0_pay9]
  have h : ∀ c : Fin 192, (Scalar.select
        (IntOp.andi
          (IntOp.xori
            (IntOp.cmpi CmpIPredicate.slt
              (IntOp.remsi ArithUnit.vector (BitVec.ofNat 32 c.val)
                (Scalar.select (Scalar.cmpi CmpIPredicate.eq 64#32 0#32) 1#32 64#32))
              0#32)
            (Scalar.cmpi CmpIPredicate.slt (Scalar.select (Scalar.cmpi CmpIPredicate.eq 64#32 0#32) 1#32 64#32) 0#32))
          (IntOp.cmpi CmpIPredicate.ne
            (IntOp.remsi ArithUnit.vector (BitVec.ofNat 32 c.val)
              (Scalar.select (Scalar.cmpi CmpIPredicate.eq 64#32 0#32) 1#32 64#32))
            0#32))
        (IntOp.addi
          (IntOp.remsi ArithUnit.vector (BitVec.ofNat 32 c.val)
            (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 c.val)
          (Scalar.select (Scalar.cmpi CmpIPredicate.eq 64#32 0#32) 1#32 64#32))).toInt = ((c.val % 64 : ℕ) : ℤ) := by
    decide +kernel
  show (((BitVec.toInt _ : ℤ) : ℝ) : EReal) = _
  rw [h]
  exact congrArg Real.toEReal (Int.cast_natCast _)

/-- A cell spread over the one-hot columns. -/
theorem pay10_at (xq : FVec Ideal S512x3 .f32) (p : Fin 512) (c : Fin 192) :
    k0_pay10 xq (iota .tc S1x192 32 [1] iota_S1x192_d1_w32) 64#32 k0_pay7 k0_pay8 (ix2 p c)
      = xq (ix2 p ⟨c.val / 64, by omega⟩) := by
  pointwise [k0_pay10, k0_pay7, k0_pay8]
  simp only [axis_word]
  rw [← sum_ind (⟨c.val / 64, by omega⟩ : Fin 3) (fun a => xq (ix2 p a))]
  refine Finset.sum_congr rfl fun a _ => ?_
  rw [sitofp_eq _ _ (by omega) (by omega)]
  congr 1
  unfold ind
  exact if_congr (by rw [Fin.ext_iff]) rfl rfl

/-- The first spreading gives pair row `(p, j)` point `p`'s row. -/
theorem pay11_at (x : FVec Ideal S512x192 .f32) (p : Fin 512) (j : Fin 16) (c : Fin 192) :
    k0_pay11 x (ix2 (row p j) c) = x (ix2 p c) := by
  pointwise [k0_pay11]
  exact congrArg (fun r => x (ix2 r c)) (Fin.ext (by show (p.val * 16 + j.val) / 16 = p.val; omega))

/-- The second spreading gives pair row `(p, j)` its partner's row. -/
theorem pay13_at (x : FVec Ideal S512x192 .f32) (p : Fin 512) (j : Fin 16) (c : Fin 192) :
    k0_pay13 (k0_pay12 x) (ix2 (row p j) c) = x (ix2 (par p j) c) := by
  pointwise [k0_pay13, k0_pay12]
  exact congrArg (fun r => x (ix2 r c)) (Fin.ext (by
    show (p.val * 16 + j.val) / 256 * 16 + (p.val * 16 + j.val) % 16 = p.val / 16 * 16 + j.val; omega))

/-- The one-hot product with the stacked tables, before the cells are known to be numbers. -/
theorem pay14_raw (r : FVec Ideal S1x192 .f32) (x : FVec Ideal S512x192 .f32) (t : Vec Ideal S192x576 .f32) (p : Fin 512)
    (j : Fin 16) (c : Fin 576) :
    k0_pay14 r x t (ix2 (row p j) c)
      = ∑ m : Fin 192, ind (x (ix2 p m) - x (ix2 (par p j) m) + ((15 : ℝ) : EReal) = r (ix2 0 m)) * t (ix2 m c) := by
  pointwise [k0_pay14]
  refine Finset.sum_congr rfl fun m _ => ?_
  rw [sitofp_bool, ofBits_fifteen]
  have h1 : (⟨(p.val * 16 + j.val) / 16, by omega⟩ : Fin 512) = p := Fin.ext (by show (p.val * 16 + j.val) / 16 = p.val; omega)
  have h2 : (⟨(p.val * 16 + j.val) / 256 * 16 + (p.val * 16 + j.val) % 16, by omega⟩ : Fin 512) = par p j :=
    Fin.ext (by show (p.val * 16 + j.val) / 256 * 16 + (p.val * 16 + j.val) % 16 = p.val / 16 * 16 + j.val; omega)
  rw [← h2]
  congr 3
  simp only [h1]

/-- The whole of the last payload at an index. -/
theorem pay1_at (v12 : FVec Ideal S512x192 .f32) (v86 v90 v109 v110 v111 : FVec Ideal S8192x192 .f32)
    (v163 : Vec Ideal S192x192 .f32) (v166 : Vec Ideal S1x192 .f32) (p : Fin 512) (o : Fin 192) :
    k0_pay1 v12 v86 v90 v109 v110 v111 k0_pay18 v163 v166 (ix2 p o)
      = att (fun j c => v86 (ix2 (row p j) c)) (fun j c => v90 (ix2 (row p j) c)) (fun j c => v12 (ix2 (par p j) c))
          (fun j c => v109 (ix2 (row p j) c)) (fun j c => v110 (ix2 (row p j) c)) (fun j c => v111 (ix2 (row p j) c))
          (fun c => v163 (ix2 c o)) (v166 (ix2 0 o)) := by
  have hp : ∀ j : Fin 16, par p j = (⟨(p.val * 16 + j.val) / 256 * 16 + j.val, by omega⟩ : Fin 512) := fun j =>
    Fin.ext (by show p.val / 16 * 16 + j.val = (p.val * 16 + j.val) / 256 * 16 + j.val; omega)
  pointwise [k0_pay1]
  have e : ∀ (c : Fin 192) (h : Fin 6), FloatOps.sitofp (F := Ideal) FTy.f32 (BitVec.setWidth 32
      (IntOp.cmpi CmpIPredicate.eq (k0_pay18 (ix2 c h)) (BitVec.ofNat 32 h.val))) = ind (c.val / 32 = h.val) := fun c h => by
    rw [pay18_at, sitofp_eq _ _ (by omega) (by omega)]
  simp only [e, sum_head, sum_spread]
  unfold att mix soft logit
  simp only [hp]
  rfl

end WinAttn.Kern

end
-- ==== Proof.KBody.lean ====
module

public import proofs.«01_k».proof.Proof.KBlock
public import proofs.«01_k».proof.Proof.Gen.KernelIdeal.Value

@[expose] public section

set_option maxRecDepth 16384

noncomputable section

open Idealize.ShloMosaic Idealize.ShloMosaic.TcCoe Idealize.SL.Sem

/-! The block the kernel stores, at an index: one point's attention over its window. -/

namespace WinAttn.Kern

open Cert.KernelIdeal Cert.KernelIdeal.Gen

variable (x0 : Vec Ideal S512x192 .f32) (x1 : Vec Ideal S512x3 .f32) (x2 : Vec Ideal S1x3 .f32) (x3 : Vec Ideal S192x576 .f32)
  (x4 : Vec Ideal S1x576 .f32) (x5 : Vec Ideal S192x576 .f32) (x6 : Vec Ideal S192x192 .f32) (x7 : Vec Ideal S1x192 .f32)

/-- Where the shifted coordinates are the reals `r`, the stacked-table product picks one row per axis. -/
theorem pay14_at (r : Fin 512 → Fin 3 → ℝ) (hr : ∀ p a, x1 (ix2 p a) - x2 (ix2 0 a) = (r p a : EReal)) (p : Fin 512) (j : Fin 16)
    (c : Fin 576) :
    k0_pay14 (k0_pay9 (iota .tc S1x192 32 [1] iota_S1x192_d1_w32))
        (k0_pay10 (k0_pay6 x1 x2) (iota .tc S1x192 32 [1] iota_S1x192_d1_w32) 64#32 k0_pay7 k0_pay8) x5 (ix2 (row p j) c)
      = ∑ a : Fin 3, x5 (ix2 (ar a ⟨rel (cell (r p a)) (cell (r (par p j) a)), rel_lt (cell_lt _)⟩) c) := by
  rw [pay14_raw]
  rw [← sum_onehot (fun a => rel (cell (r p a)) (cell (r (par p j) a))) (fun a => rel_lt (cell_lt _)) (fun m => x5 (ix2 m c))]
  refine Finset.sum_congr rfl fun m _ => ?_
  congr 1
  rw [pay10_at, pay10_at, pay9_at, pay6_at x1 x2 p _ _ (hr p _), pay6_at x1 x2 (par p j) _ _ (hr _ _), rel_cast (cell_lt _)]
  unfold ind
  refine if_congr ?_ rfl rfl
  rw [EReal.coe_eq_coe_iff, Nat.cast_inj]

/-- The pairs' query terms are the first group of columns. -/
theorem pay15_at (r : FVec Ideal S1x192 .f32) (x : FVec Ideal S512x192 .f32) (p : Fin 8192) (c : Fin 192) :
    k0_pay15 r x x5 (ix2 p c) = k0_pay14 r x x5 (ix2 p (cq c)) := by
  unfold k0_pay15
  generalize k0_pay14 r x x5 = y
  pointwise []
  rfl

/-- The pairs' key terms are the second group of columns. -/
theorem pay16_at (r : FVec Ideal S1x192 .f32) (x : FVec Ideal S512x192 .f32) (p : Fin 8192) (c : Fin 192) :
    k0_pay16 r x x5 (ix2 p c) = k0_pay14 r x x5 (ix2 p (ck c)) := by
  unfold k0_pay16
  generalize k0_pay14 r x x5 = y
  pointwise []
  rfl

/-- The pairs' value terms are the third group of columns. -/
theorem pay17_at (r : FVec Ideal S1x192 .f32) (x : FVec Ideal S512x192 .f32) (p : Fin 8192) (c : Fin 192) :
    k0_pay17 r x x5 (ix2 p c) = k0_pay14 r x x5 (ix2 p (cv c)) := by
  unfold k0_pay17
  generalize k0_pay14 r x x5 = y
  pointwise []
  rfl

/-- The relative position term of a pair, from the stacked table. -/
def bt (r : Fin 512 → Fin 3 → ℝ) (p : Fin 512) (j : Fin 16) (c : Fin 576) : EReal :=
  ∑ a : Fin 3, x5 (ix2 (ar a ⟨rel (cell (r p a)) (cell (r (par p j) a)), rel_lt (cell_lt _)⟩) c)

/-- The stored block at an index. -/
theorem out_at (r : Fin 512 → Fin 3 → ℝ) (hr : ∀ p a, x1 (ix2 p a) - x2 (ix2 0 a) = (r p a : EReal)) (p : Fin 512) (o : Fin 192) :
    out0_8 x0 x1 x2 x3 x4 x5 x6 x7 (ix2 p o)
      = att (fun _ c => bqkv x0 x3 x4 p (cq c) * (((Real.sqrt 32)⁻¹ : ℝ) : EReal)) (fun j c => bqkv x0 x3 x4 (par p j) (ck c))
          (fun j c => bqkv x0 x3 x4 (par p j) (cv c)) (fun j c => bt x5 r p j (cq c)) (fun j c => bt x5 r p j (ck c))
          (fun j c => bt x5 r p j (cv c)) (fun c => x6 (ix2 c o)) (x7 (ix2 0 o)) := by
  have hz : (![0, 0] : Fin 2 → Nat) = fun _ => 0 := by decide
  unfold_out out0_8
  rw [View.canon_unit_zero hz]
  rw [View.ld_unit_zero hz _ x0, View.ld_unit_zero hz _ x3, View.ld_unit_zero hz _ x4, View.ld_unit_zero hz _ x5, View.ld_unit_zero hz _ x6,
    View.ld_unit_zero hz _ x7, View.ld_unit_zero hz _ x1, View.ld_unit_zero hz _ x2]
  rw [pay1_at]
  simp only [pay11_at, pay13_at, pay3_at, pay4_at, pay5_at, pay15_at, pay16_at, pay17_at, pay14_at x1 x2 x5 r hr]
  rfl

end WinAttn.Kern

end
-- ==== Proof.KHost.lean ====
module

public import proofs.«01_k».proof.Proof.KBody

@[expose] public section

set_option maxRecDepth 16384

noncomputable section

open Idealize.ShloMosaic Idealize.ShloMosaic.TcCoe Idealize.SL.Sem

/-! The arrays the kernel's windows read, at an index of the arguments: what the host operations before it leave. -/

namespace WinAttn.Kern

open Cert.KernelIdeal Cert.KernelIdeal.Gen

variable (m : (ℓ : Loc nD τ sig) → Buf (Elt Ideal) ℓ) (c : Dev nD)

/-- A table with the axis and the table row as its rows, the head and the place in it as its columns. -/
def stack (t : Vec Ideal S64x6x32x3 .f32) : Vec Ideal S192x192 .f32 :=
  shapeCast S192x192 (transpose S3x64x6x32 [3, 0, 1, 2] t transposes_S64x6x32x3_S3x64x6x32_3_0_1_2) shapeCasts_S3x64x6x32_S192x192

/-- A stacked table's row is an axis and a table row; its column is a head and a place in it. -/
theorem stack_at (t : Vec Ideal S64x6x32x3 .f32) (a : Fin 3) (r : Fin 64) (d : Fin 192) :
    stack t (ix2 (ar a r) d) = t (ix4 r (headOf d) (dimOf d) a) := by
  pointwise [stack]
  have h1 : (⟨(ar a r).val % 64, by omega⟩ : Fin 64) = r := Fin.ext (by show (a.val * 64 + r.val) % 64 = r.val; omega)
  have h2 : (⟨(ar a r).val / 64, by omega⟩ : Fin 3) = a := Fin.ext (by show (a.val * 64 + r.val) / 64 = a.val; omega)
  rw [h1, h2]
  rfl

/-- The first projection's weights are transposed. -/
theorem V_v0 : @Eq (FVec Ideal S192x576 .f32) (V m c main_v0)
    (transpose S192x576 [1, 0] (m ((c : Thread nD τ).loc main_arg7)) transposes_S576x192_S192x576_1_0) := by
  simp only [V, hostOps0, hostOps0_1, List.flatten_cons, List.flatten_nil, List.append_nil, List.cons_append, List.nil_append]
  after_results

/-- Its offsets are one row. -/
theorem V_v1 : @Eq (FVec Ideal S1x576 .f32) (V m c main_v1)
    (shapeCast S1x576 (m ((c : Thread nD τ).loc main_arg8)) shapeCasts_S576_S1x576) := by
  simp only [V, hostOps0, hostOps0_1, List.flatten_cons, List.flatten_nil, List.append_nil, List.cons_append, List.nil_append]
  after_results
  rfl

/-- The output projection is transposed. -/
theorem V_v2 : @Eq (FVec Ideal S192x192 .f32) (V m c main_v2)
    (transpose S192x192 [1, 0] (m ((c : Thread nD τ).loc main_arg9)) transposes_S192x192_S192x192_1_0) := by
  simp only [V, hostOps0, hostOps0_1, List.flatten_cons, List.flatten_nil, List.append_nil, List.cons_append, List.nil_append]
  after_results

/-- Its offsets are one row. -/
theorem V_v3 : @Eq (FVec Ideal S1x192 .f32) (V m c main_v3)
    (shapeCast S1x192 (m ((c : Thread nD τ).loc main_arg10)) shapeCasts_S192_S1x192) := by
  simp only [V, hostOps0, hostOps0_1, List.flatten_cons, List.flatten_nil, List.append_nil, List.cons_append, List.nil_append]
  after_results
  rfl

/-- The three stacked tables lie side by side. -/
theorem V_v10 : @Eq (FVec Ideal S192x576 .f32) (V m c main_v10)
    (concatenate S192x576 1 [⟨S192x192, stack (m ((c : Thread nD τ).loc main_arg11))⟩, ⟨S192x192, stack (m ((c : Thread nD τ).loc main_arg12))⟩,
        ⟨S192x192, stack (m ((c : Thread nD τ).loc main_arg13))⟩] concatenates_S192x192_S192x192_S192x192_S192x576_d1) := by
  simp only [V, hostOps0, hostOps0_1, List.flatten_cons, List.flatten_nil, List.append_nil, List.cons_append, List.nil_append]
  after_results
  rfl

/-- The least coordinate along each axis. -/
def least (x : FVec Ideal S8192x3 .f32) : FVec Ideal S3 .f32 :=
  Host.reduce FloatOps.minimumf x (constant S_ .f32 0x7F800000#32) reducesTo_S8192x3_S3_d0 h_S_

/-- The offset of the points is the least coordinate less the shift. -/
theorem V_off : @Eq (FVec Ideal S1x3 .f32) (V m c main_call0_v3)
    (subf (broadcastInDim S1x3 ![1] bcast_S3_S1x3_1 (least (m ((c : Thread nD τ).loc main_arg1))))
        (broadcastInDim S1x3 ![] bcast_S_S1x3 (sitofp .f32 (m ((c : Thread nD τ).loc main_arg6))))) := by
  simp only [V, hostOps0, hostOps0_1, List.flatten_cons, List.flatten_nil, List.append_nil, List.cons_append, List.nil_append]
  after_results
  simp -implicitDefEqProofs only [StableHlo.TRef.toBuf, StableHlo.TRef.ofBuf, cast_cast, cast_eq]
  rfl

/-- An entry of the transposed weights. -/
theorem v0_at (d : Fin 192) (k : Fin 576) : (V m c main_v0 : Vec Ideal S192x576 .f32) (ix2 d k) = m ((c : Thread nD τ).loc main_arg7) (ix2 k d) := by
  rw [V_v0]
  pointwise []

/-- An entry of the offsets' row. -/
theorem v1_at (k : Fin 576) : (V m c main_v1 : Vec Ideal S1x576 .f32) (ix2 0 k) = m ((c : Thread nD τ).loc main_arg8) (ix1 k) := by
  rw [V_v1]
  pointwise []

/-- An entry of the transposed output projection. -/
theorem v2_at (d o : Fin 192) : (V m c main_v2 : Vec Ideal S192x192 .f32) (ix2 d o) = m ((c : Thread nD τ).loc main_arg9) (ix2 o d) := by
  rw [V_v2]
  pointwise []

/-- An entry of the output offsets' row. -/
theorem v3_at (o : Fin 192) : (V m c main_v3 : Vec Ideal S1x192 .f32) (ix2 0 o) = m ((c : Thread nD τ).loc main_arg10) (ix1 o) := by
  rw [V_v3]
  pointwise []

/-- The offset of the points along an axis. -/
theorem off_at (a : Fin 3) : (V m c main_call0_v3 : Vec Ideal S1x3 .f32) (ix2 0 a)
    = least (m ((c : Thread nD τ).loc main_arg1)) (ix1 a) - ((((m ((c : Thread nD τ).loc main_arg6) : IVec S_ 32) ix0).toInt : ℝ) : EReal) := by
  rw [V_off]
  generalize least (m ((c : Thread nD τ).loc main_arg1)) = y
  pointwise []
  rfl

/-- Of three arrays side by side, the first group of columns is the first array. -/
theorem beside_q (x y z : FVec Ideal S192x192 .f32) (k d : Fin 192) :
    concatenate S192x576 1 [⟨S192x192, x⟩, ⟨S192x192, y⟩, ⟨S192x192, z⟩] concatenates_S192x192_S192x192_S192x192_S192x576_d1 (ix2 k (cq d))
      = x (ix2 k d) := by
  pointwise []
  rw [dif_pos (show (cq d).val < 192 from d.isLt)]
  rfl

/-- The second group of columns is the second array. -/
theorem beside_k (x y z : FVec Ideal S192x192 .f32) (k d : Fin 192) :
    concatenate S192x576 1 [⟨S192x192, x⟩, ⟨S192x192, y⟩, ⟨S192x192, z⟩] concatenates_S192x192_S192x192_S192x192_S192x576_d1 (ix2 k (ck d))
      = y (ix2 k d) := by
  pointwise []
  have h : (ck d).val = 192 + d.val := rfl
  rw [dif_neg (by omega), dif_pos (by omega)]
  exact congrArg (fun e => y (ix2 k e)) (Fin.ext (by show 192 + d.val - 192 = d.val; omega))

/-- The third group of columns is the third array. -/
theorem beside_v (x y z : FVec Ideal S192x192 .f32) (k d : Fin 192) :
    concatenate S192x576 1 [⟨S192x192, x⟩, ⟨S192x192, y⟩, ⟨S192x192, z⟩] concatenates_S192x192_S192x192_S192x192_S192x576_d1 (ix2 k (cv d))
      = z (ix2 k d) := by
  pointwise []
  have h : (cv d).val = 384 + d.val := rfl
  rw [dif_neg (by omega), dif_neg (by omega)]
  exact congrArg (fun e => z (ix2 k e)) (Fin.ext (by show 384 + d.val - 192 - 192 = d.val; omega))

/-- The first group of columns holds the query's table. -/
theorem tq_at (a : Fin 3) (r : Fin 64) (d : Fin 192) : (V m c main_v10 : Vec Ideal S192x576 .f32) (ix2 (ar a r) (cq d))
    = m ((c : Thread nD τ).loc main_arg11) (ix4 r (headOf d) (dimOf d) a) := by
  rw [V_v10, beside_q]
  exact stack_at _ a r d

/-- The second holds the key's table. -/
theorem tk_at (a : Fin 3) (r : Fin 64) (d : Fin 192) : (V m c main_v10 : Vec Ideal S192x576 .f32) (ix2 (ar a r) (ck d))
    = m ((c : Thread nD τ).loc main_arg12) (ix4 r (headOf d) (dimOf d) a) := by
  rw [V_v10, beside_k]
  exact stack_at _ a r d

/-- The third holds the value's table. -/
theorem tv_at (a : Fin 3) (r : Fin 64) (d : Fin 192) : (V m c main_v10 : Vec Ideal S192x576 .f32) (ix2 (ar a r) (cv d))
    = m ((c : Thread nD τ).loc main_arg13) (ix4 r (headOf d) (dimOf d) a) := by
  rw [V_v10, beside_v]
  exact stack_at _ a r d

end WinAttn.Kern

end
-- ==== Proof.KArr.lean ====
module

public import proofs.«01_k».proof.Proof.KHost

@[expose] public section

set_option maxRecDepth 16384

noncomputable section

open Idealize.ShloMosaic Idealize.ShloMosaic.TcCoe Idealize.SL.Sem
open Idealize.ShloMosaic.Pipeline (Dat)

/-! The kernel's result array: the sixteen blocks together are the attention of the whole arrays. -/

namespace WinAttn.Kern

open Cert.KernelIdeal Cert.KernelIdeal.Gen

variable (m : (ℓ : Loc nD τ sig) → Buf (Elt Ideal) ℓ) (c : Dev nD)

/-- The point of the whole array that block `t` holds in row `p`. -/
def pt (t : Fin cfg0.N) (p : Fin 512) : Fin 8192 := ⟨t.val * 512 + p.val, by have h := t.isLt; have e : cfg0.N = 16 := N_0; omega⟩

/-- The blocks of the features, the points and the result: block `t` of the rows, and every column. -/
theorem idx_rows : ∀ t : Fin cfg0.N, win0_0.index t 0 = t.val ∧ win0_0.index t 1 = 0 ∧ win0_1.index t 0 = t.val ∧ win0_1.index t 1 = 0
    ∧ win0_8.index t 0 = t.val ∧ win0_8.index t 1 = 0 :=
  (by decide +kernel : ∀ t : Fin grid0.N, win0_0.index t 0 = t.val ∧ win0_0.index t 1 = 0 ∧ win0_1.index t 0 = t.val ∧ win0_1.index t 1 = 0
    ∧ win0_8.index t 0 = t.val ∧ win0_8.index t 1 = 0)

/-- The other windows stay at block zero. -/
theorem idx_whole : ∀ t : Fin cfg0.N, (∀ a, win0_2.index t a = 0) ∧ (∀ a, win0_3.index t a = 0) ∧ (∀ a, win0_4.index t a = 0)
    ∧ (∀ a, win0_5.index t a = 0) ∧ (∀ a, win0_6.index t a = 0) ∧ (∀ a, win0_7.index t a = 0) :=
  (by decide +kernel : ∀ t : Fin grid0.N, (∀ a, win0_2.index t a = 0) ∧ (∀ a, win0_3.index t a = 0) ∧ (∀ a, win0_4.index t a = 0)
    ∧ (∀ a, win0_5.index t a = 0) ∧ (∀ a, win0_6.index t a = 0) ∧ (∀ a, win0_7.index t a = 0))

/-- Block `t` of the features holds rows `512 t` to `512 t + 511`. -/
theorem blk0 (t : Fin cfg0.N) (p : Fin 512) (d : Fin 192) :
    iblk m c 0 t (ix2 p d) = m ((c : Thread nD τ).loc main_arg0) (ix2 (pt t p) d) := by
  show V m c main_arg0 (((cfg0.win 0).blk t).view.emb (ix2 p d)) = _
  rw [V_main_arg0]
  congr 1
  obtain ⟨e0, e1, -⟩ := idx_rows t
  funext a; apply Fin.ext
  match a with
  | ⟨0, _⟩ => show win0_0.index t (0 : Fin 2) * 512 + 1 * p.val = t.val * 512 + p.val; omega
  | ⟨1, _⟩ => show win0_0.index t (1 : Fin 2) * 192 + 1 * d.val = d.val; omega

/-- Block `t` of the points holds the same rows. -/
theorem blk1 (t : Fin cfg0.N) (p : Fin 512) (d : Fin 3) :
    iblk m c 1 t (ix2 p d) = m ((c : Thread nD τ).loc main_arg1) (ix2 (pt t p) d) := by
  show V m c main_arg1 (((cfg0.win 1).blk t).view.emb (ix2 p d)) = _
  rw [V_main_arg1]
  congr 1
  obtain ⟨-, -, e0, e1, -⟩ := idx_rows t
  funext a; apply Fin.ext
  match a with
  | ⟨0, _⟩ => show win0_1.index t (0 : Fin 2) * 512 + 1 * p.val = t.val * 512 + p.val; omega
  | ⟨1, _⟩ => show win0_1.index t (1 : Fin 2) * 3 + 1 * d.val = d.val; omega

/-- A place read at block zero of blocks as large as the array is the place itself. -/
theorem same_place {n : ℕ} {d : Fin n → ℕ} (i j : ∀ a, Fin (d a)) (k : Fin n → ℕ) (hk : ∀ a, k a = 0)
    (h : ∀ a, (i a).val = k a * d a + 1 * (j a).val) : i = j :=
  funext fun a => Fin.ext (by rw [h a, hk a]; omega)

/-- Every block of window 2 is its whole array. -/
theorem blk2 (t : Fin cfg0.N) : iblk m c 2 t = V m c main_call0_v3 :=
  funext fun j => congrArg (V m c main_call0_v3) (same_place (((cfg0.win 2).blk t).view.emb j) j (win0_2.index t) (idx_whole t).1 fun _ => rfl)

/-- Every block of window 3 is its whole array. -/
theorem blk3 (t : Fin cfg0.N) : iblk m c 3 t = V m c main_v0 :=
  funext fun j => congrArg (V m c main_v0) (same_place (((cfg0.win 3).blk t).view.emb j) j (win0_3.index t) (idx_whole t).2.1 fun _ => rfl)

/-- Every block of window 4 is its whole array. -/
theorem blk4 (t : Fin cfg0.N) : iblk m c 4 t = V m c main_v1 :=
  funext fun j => congrArg (V m c main_v1) (same_place (((cfg0.win 4).blk t).view.emb j) j (win0_4.index t) (idx_whole t).2.2.1 fun _ => rfl)

/-- Every block of window 5 is its whole array. -/
theorem blk5 (t : Fin cfg0.N) : iblk m c 5 t = V m c main_v10 :=
  funext fun j => congrArg (V m c main_v10) (same_place (((cfg0.win 5).blk t).view.emb j) j (win0_5.index t) (idx_whole t).2.2.2.1 fun _ => rfl)

/-- Every block of window 6 is its whole array. -/
theorem blk6 (t : Fin cfg0.N) : iblk m c 6 t = V m c main_v2 :=
  funext fun j => congrArg (V m c main_v2) (same_place (((cfg0.win 6).blk t).view.emb j) j (win0_6.index t) (idx_whole t).2.2.2.2.1 fun _ => rfl)

/-- Every block of window 7 is its whole array. -/
theorem blk7 (t : Fin cfg0.N) : iblk m c 7 t = V m c main_v3 :=
  funext fun j => congrArg (V m c main_v3) (same_place (((cfg0.win 7).blk t).view.emb j) j (win0_7.index t) (idx_whole t).2.2.2.2.2 fun _ => rfl)

/-- The features, as an array of their coordinates. -/
def argF : Fin 8192 → Fin 192 → EReal := fun n d => m ((c : Thread nD τ).loc main_arg0) (ix2 n d)
/-- The points. -/
def argX : Fin 8192 → Fin 3 → EReal := fun n a => m ((c : Thread nD τ).loc main_arg1) (ix2 n a)
/-- The first projection's weights. -/
def argW : Fin 576 → Fin 192 → EReal := fun k d => m ((c : Thread nD τ).loc main_arg7) (ix2 k d)
/-- Its offsets. -/
def argB : Fin 576 → EReal := fun k => m ((c : Thread nD τ).loc main_arg8) (ix1 k)
/-- The output projection. -/
def argP : Fin 192 → Fin 192 → EReal := fun o k => m ((c : Thread nD τ).loc main_arg9) (ix2 o k)
/-- Its offsets. -/
def argPB : Fin 192 → EReal := fun o => m ((c : Thread nD τ).loc main_arg10) (ix1 o)
/-- The query's table. -/
def argQ : Fin 64 → Fin 6 → Fin 32 → Fin 3 → EReal := fun r h d a => m ((c : Thread nD τ).loc main_arg11) (ix4 r h d a)
/-- The key's table. -/
def argK : Fin 64 → Fin 6 → Fin 32 → Fin 3 → EReal := fun r h d a => m ((c : Thread nD τ).loc main_arg12) (ix4 r h d a)
/-- The value's table. -/
def argV : Fin 64 → Fin 6 → Fin 32 → Fin 3 → EReal := fun r h d a => m ((c : Thread nD τ).loc main_arg13) (ix4 r h d a)

/-- The kernel's result array, where the shifted coordinates are the reals `r`. -/
def res (r : Fin 8192 → Fin 3 → ℝ) : Buf (Elt Ideal) ((c : Thread nD τ).loc main_v12) :=
  fun i => result (argF m c) (argW m c) (argB m c) (argP m c) (argPB m c) (argQ m c) (argK m c) (argV m c) r (i 0) (i 1)

/-- A partner in the block is the partner in the whole array. -/
theorem pt_par (t : Fin cfg0.N) (p : Fin 512) (j : Fin 16) : pt t (par p j) = win (pt t p) j :=
  Fin.ext (by show t.val * 512 + (p.val / 16 * 16 + j.val) = (t.val * 512 + p.val) / 16 * 16 + j.val; omega)

/-- The block's projected features are those of its points in the whole array. -/
theorem bqkv_at (t : Fin cfg0.N) (p : Fin 512) (k : Fin 576) :
    bqkv (iblk m c 0 t) (V m c main_v0) (V m c main_v1) p k = qkv (argF m c) (argW m c) (argB m c) (pt t p) k := by
  unfold bqkv qkv
  rw [v1_at]
  congr 1
  refine Finset.sum_congr rfl fun d _ => ?_
  rw [blk0, v0_at]
  rfl

variable (r : Fin 8192 → Fin 3 → ℝ)

/-- The block's relative term of the query is that of its points in the whole array. -/
theorem btq_at (t : Fin cfg0.N) (p : Fin 512) (j : Fin 16) (k : Fin 192) :
    bt (V m c main_v10) (fun p a => r (pt t p) a) p j (cq k) = tab (argQ m c) r (pt t p) j k := by
  unfold bt tab
  refine Finset.sum_congr rfl fun a _ => ?_
  rw [tq_at]
  simp only [pt_par]
  rfl

/-- The same of the key's relative term. -/
theorem btk_at (t : Fin cfg0.N) (p : Fin 512) (j : Fin 16) (k : Fin 192) :
    bt (V m c main_v10) (fun p a => r (pt t p) a) p j (ck k) = tab (argK m c) r (pt t p) j k := by
  unfold bt tab
  refine Finset.sum_congr rfl fun a _ => ?_
  rw [tk_at]
  simp only [pt_par]
  rfl

/-- The same of the value's relative term. -/
theorem btv_at (t : Fin cfg0.N) (p : Fin 512) (j : Fin 16) (k : Fin 192) :
    bt (V m c main_v10) (fun p a => r (pt t p) a) p j (cv k) = tab (argV m c) r (pt t p) j k := by
  unfold bt tab
  refine Finset.sum_congr rfl fun a _ => ?_
  rw [tv_at]
  simp only [pt_par]
  rfl

/-- What point `t` writes back is its block of the whole result. -/
theorem flushed_res (hr : ∀ n a, argX m c n a - (V m c main_call0_v3 : Vec Ideal S1x3 .f32) (ix2 0 a) = (r n a : EReal)) (t : Fin cfg0.N) :
    (dats m 0 c).flushed 8 t = ((cfg0.win 8).blk t).view.read (Elt Ideal) (res m c r) := by
  rw [Value.flushed8]
  funext i
  obtain ⟨p, o, rfl⟩ : ∃ (p : Fin 512) (o : Fin 192), i = ix2 p o := ⟨i 0, i 1, eq_ix2 i⟩
  show out0_8 (iblk m c 0 t) (iblk m c 1 t) (iblk m c 2 t) (iblk m c 3 t) (iblk m c 4 t) (iblk m c 5 t) (iblk m c 6 t) (iblk m c 7 t) (ix2 p o)
    = res m c r (((cfg0.win 8).blk t).view.emb (ix2 p o))
  have hi : ((cfg0.win 8).blk t).view.emb (ix2 p o) = ix2 (pt t p) o := by
    obtain ⟨-, -, -, -, e0, e1⟩ := idx_rows t
    funext a; apply Fin.ext
    match a with
    | ⟨0, _⟩ => show win0_8.index t (0 : Fin 2) * 512 + 1 * p.val = t.val * 512 + p.val; omega
    | ⟨1, _⟩ => show win0_8.index t (1 : Fin 2) * 192 + 1 * o.val = o.val; omega
  rw [hi, blk2, blk3, blk4, blk5, blk6, blk7]
  rw [out_at _ _ _ _ _ _ _ _ (fun p a => r (pt t p) a) (fun p a => by rw [blk1]; exact hr (pt t p) a)]
  exact att_congr (fun _ k => congrArg (· * _) (bqkv_at m c t p (cq k)))
    (fun j k => (bqkv_at m c t (par p j) (ck k)).trans (by rw [pt_par]; rfl)) (fun j k => (bqkv_at m c t (par p j) (cv k)).trans (by rw [pt_par]; rfl))
    (fun j k => btq_at m c r t p j k) (fun j k => btk_at m c r t p j k) (fun j k => btv_at m c r t p j k)
    (fun k => v2_at m c k o) (v3_at m c o)

/-- Every index of the result array is in some point's block. -/
theorem covered (i : S8192x192.Idx) : ∃ t : Fin cfg0.N, (cfg0.win 8).flush t = true ∧ i ∈ ((cfg0.win 8).blk t).view.set := by
  have h0 : (i 0).val < 8192 := (i 0).isLt
  have ht : (i 0).val / 512 < cfg0.N := by have e : cfg0.N = 16 := N_0; omega
  refine ⟨⟨(i 0).val / 512, ht⟩, flush0_8 _, ?_⟩
  have h := ((cfg0.win 8).blk (⟨(i 0).val / 512, ht⟩ : Fin cfg0.N)).view.emb_mem_set
    (ix2 (⟨(i 0).val % 512, by omega⟩ : Fin 512) (i 1) : S512x192.Idx)
  have hi : ((cfg0.win 8).blk (⟨(i 0).val / 512, ht⟩ : Fin cfg0.N)).view.emb
      (ix2 (⟨(i 0).val % 512, by omega⟩ : Fin 512) (i 1) : S512x192.Idx) = i := by
    obtain ⟨-, -, -, -, e0, e1⟩ := idx_rows (⟨(i 0).val / 512, ht⟩ : Fin cfg0.N)
    funext a; apply Fin.ext
    match a with
    | ⟨0, _⟩ =>
      show win0_8.index (⟨(i 0).val / 512, ht⟩ : Fin cfg0.N) (0 : Fin 2) * 512 + 1 * ((i 0).val % 512) = (i 0).val
      rw [e0]; show (i 0).val / 512 * 512 + 1 * ((i 0).val % 512) = (i 0).val; omega
    | ⟨1, _⟩ =>
      show win0_8.index (⟨(i 0).val / 512, ht⟩ : Fin cfg0.N) (1 : Fin 2) * 192 + 1 * (i 1).val = (i 1).val
      omega
  rwa [hi] at h

/-- So the result array ends holding the whole result. -/
theorem final (hr : ∀ n a, argX m c n a - (V m c main_call0_v3 : Vec Ideal S1x3 .f32) (ix2 0 a) = (r n a : EReal)) :
    (dats m 0 c).arrAt 8 cfg0.N = res m c r :=
  (dats m 0 c).arrAt_eq_of_cover 8 (res m c r) (fun t _ => flushed_res m c r hr t) covered

end WinAttn.Kern

end
-- ==== Proof.RIdx.lean ====
module

public import proofs.«01_k».proof.Proof.Spec
public import proofs.«01_k».proof.Proof.Gen.ReferenceIdeal.Read
public import Idealize.ShloMosaic.Lib.Pointwise
public import Idealize.ShloMosaic.Lib.Routing.OpsPair

@[expose] public section

set_option maxRecDepth 16384

noncomputable section

open Idealize.ShloMosaic Idealize.ShloMosaic.TcCoe Idealize.SL.Sem

/-! The reference's gathers and scatter sums read at an index. -/

namespace WinAttn.Ref

open Cert.ReferenceIdeal Cert.ReferenceIdeal.Gen

/-- Row `n`'s `j`-th pair. -/
def pr (n : Fin 8192) (j : Fin 16) : Fin 131072 := ⟨n.val * 16 + j.val, by omega⟩

/-- A pair belongs to one row, in one place. -/
theorem pr_inj {n n' : Fin 8192} {j j' : Fin 16} (e : pr n j = pr n' j') : n = n' ∧ j = j' := by
  have e' : n.val * 16 + j.val = n'.val * 16 + j'.val := congrArg Fin.val e
  exact ⟨Fin.ext (by omega), Fin.ext (by omega)⟩

/-- Every pair is some row's. -/
theorem pr_surj (m : Fin 131072) : ∃ n j, m = pr n j :=
  ⟨⟨m.val / 16, by omega⟩, ⟨m.val % 16, by omega⟩,
    Fin.ext (by show m.val = m.val / 16 * 16 + m.val % 16; omega)⟩

/-- A small word read signed is its number. -/
theorem toInt_nat (k : Nat) (hk : k < 8192) : (BitVec.ofNat 32 k).toInt = (k : Int) := by
  rw [BitVec.toInt_eq_toNat_cond, BitVec.toNat_ofNat, Nat.mod_eq_of_lt (by omega)]
  omega

/-- The start index of this gather: the pair's row of the index array. -/
theorem si_rows (m : Fin 131072) (h : Fin 6) (d : Fin 32)
    (k : Fin gather_S8192x6x32_S131072x1_S131072x6x32_12_0_n_n_0_1_1632.startIndexMap.length) :
    gather_S8192x6x32_S131072x1_S131072x6x32_12_0_n_n_0_1_1632.siIdx (ix3 m h d) k
      = ix2 m ⟨k.val, k.isLt⟩ := by
  funext b
  match b with
  | ⟨0, _⟩ =>
    unfold GatherDims.siIdx
    rw [dif_neg (by exact Nat.zero_ne_one)]
    rfl
  | ⟨1, _⟩ =>
    unfold GatherDims.siIdx
    rw [dif_pos (by rfl)]
    exact Fin.ext rfl

/-- Where the gather of rows of heads reads: the row that the index names, clamped. -/
theorem op_rows (m : Fin 131072) (h : Fin 6) (d : Fin 32) (idx : IVec S131072x1 32) :
    gather_S8192x6x32_S131072x1_S131072x6x32_12_0_n_n_0_1_1632.operandIdx (ix3 m h d) idx
      = ix3 ⟨min (idx (ix2 m 0)).toInt.toNat 8191, by omega⟩ h d := by
  funext a
  apply Fin.ext
  match a with
  | ⟨0, _⟩ =>
    show GatherDims.start _ _ _ 0 + GatherDims.batchCoord _ _ 0 + GatherDims.offCoord _ _ 0 = _
    rw [GatherDims.batchCoord_eq_zero _ _ _ (by decide), GatherDims.offCoord_eq_zero _ _ _ (by decide)]
    unfold GatherDims.start
    rw [dif_pos (by decide)]
    exact congrArg (fun i => min (idx i).toInt.toNat 8191) (si_rows m h d _)
  | ⟨1, _⟩ =>
    show GatherDims.start _ _ _ 1 + GatherDims.batchCoord _ _ 1 + GatherDims.offCoord _ _ 1 = _
    rw [GatherDims.batchCoord_eq_zero _ _ _ (by decide)]
    unfold GatherDims.start GatherDims.offCoord
    rw [dif_neg (by decide), dif_pos (by decide)]
    show 0 + 0 + h.val = h.val
    omega
  | ⟨2, _⟩ =>
    show GatherDims.start _ _ _ 2 + GatherDims.batchCoord _ _ 2 + GatherDims.offCoord _ _ 2 = _
    rw [GatherDims.batchCoord_eq_zero _ _ _ (by decide)]
    unfold GatherDims.start GatherDims.offCoord
    rw [dif_neg (by decide), dif_pos (by decide)]
    show 0 + 0 + d.val = d.val
    omega

/-- The start index of this gather: the pair's row of the index array. -/
theorem si_xyz (m : Fin 131072) (a : Fin 3)
    (k : Fin gather_S8192x3_S131072x1_S131072x3_1_0_n_n_0_1_13.startIndexMap.length) :
    gather_S8192x3_S131072x1_S131072x3_1_0_n_n_0_1_13.siIdx (ix2 m a) k
      = ix2 m ⟨k.val, k.isLt⟩ := by
  funext b
  match b with
  | ⟨0, _⟩ =>
    unfold GatherDims.siIdx
    rw [dif_neg (by exact Nat.zero_ne_one)]
    rfl
  | ⟨1, _⟩ =>
    unfold GatherDims.siIdx
    rw [dif_pos (by rfl)]
    exact Fin.ext rfl

/-- Where the gather of points reads. -/
theorem op_xyz (m : Fin 131072) (a : Fin 3) (idx : IVec S131072x1 32) :
    gather_S8192x3_S131072x1_S131072x3_1_0_n_n_0_1_13.operandIdx (ix2 m a) idx
      = ix2 ⟨min (idx (ix2 m 0)).toInt.toNat 8191, by omega⟩ a := by
  funext b
  apply Fin.ext
  match b with
  | ⟨0, _⟩ =>
    show GatherDims.start _ _ _ 0 + GatherDims.batchCoord _ _ 0 + GatherDims.offCoord _ _ 0 = _
    rw [GatherDims.batchCoord_eq_zero _ _ _ (by decide), GatherDims.offCoord_eq_zero _ _ _ (by decide)]
    unfold GatherDims.start
    rw [dif_pos (by decide)]
    exact congrArg (fun i => min (idx i).toInt.toNat 8191) (si_xyz m a _)
  | ⟨1, _⟩ =>
    show GatherDims.start _ _ _ 1 + GatherDims.batchCoord _ _ 1 + GatherDims.offCoord _ _ 1 = _
    rw [GatherDims.batchCoord_eq_zero _ _ _ (by decide)]
    unfold GatherDims.start GatherDims.offCoord
    rw [dif_neg (by decide), dif_pos (by decide)]
    show 0 + 0 + a.val = a.val
    omega

/-- The start index of this gather: the pair's row of the index array. -/
theorem si_heads (m : Fin 131072) (h : Fin 6)
    (k : Fin gather_S8192x6_S131072x1_S131072x6_1_0_n_n_0_1_16.startIndexMap.length) :
    gather_S8192x6_S131072x1_S131072x6_1_0_n_n_0_1_16.siIdx (ix2 m h) k
      = ix2 m ⟨k.val, k.isLt⟩ := by
  funext b
  match b with
  | ⟨0, _⟩ =>
    unfold GatherDims.siIdx
    rw [dif_neg (by exact Nat.zero_ne_one)]
    rfl
  | ⟨1, _⟩ =>
    unfold GatherDims.siIdx
    rw [dif_pos (by rfl)]
    exact Fin.ext rfl

/-- Where the gather of rows of one number per head reads. -/
theorem op_heads (m : Fin 131072) (h : Fin 6) (idx : IVec S131072x1 32) :
    gather_S8192x6_S131072x1_S131072x6_1_0_n_n_0_1_16.operandIdx (ix2 m h) idx
      = ix2 ⟨min (idx (ix2 m 0)).toInt.toNat 8191, by omega⟩ h := by
  funext a
  apply Fin.ext
  match a with
  | ⟨0, _⟩ =>
    show GatherDims.start _ _ _ 0 + GatherDims.batchCoord _ _ 0 + GatherDims.offCoord _ _ 0 = _
    rw [GatherDims.batchCoord_eq_zero _ _ _ (by decide), GatherDims.offCoord_eq_zero _ _ _ (by decide)]
    unfold GatherDims.start
    rw [dif_pos (by decide)]
    exact congrArg (fun i => min (idx i).toInt.toNat 8191) (si_heads m h _)
  | ⟨1, _⟩ =>
    show GatherDims.start _ _ _ 1 + GatherDims.batchCoord _ _ 1 + GatherDims.offCoord _ _ 1 = _
    rw [GatherDims.batchCoord_eq_zero _ _ _ (by decide)]
    unfold GatherDims.start GatherDims.offCoord
    rw [dif_neg (by decide), dif_pos (by decide)]
    show 0 + 0 + h.val = h.val
    omega

/-- The start index of this gather: the pair's row of the index array. -/
theorem si_tab (m : Fin 131072) (h : Fin 6) (d : Fin 32)
    (k : Fin gather_S64x6x32x3_S131072x2_S131072x6x32_12_03_n_n_03_1_16321.startIndexMap.length) :
    gather_S64x6x32x3_S131072x2_S131072x6x32_12_03_n_n_03_1_16321.siIdx (ix3 m h d) k
      = ix2 m ⟨k.val, k.isLt⟩ := by
  funext b
  match b with
  | ⟨0, _⟩ =>
    unfold GatherDims.siIdx
    rw [dif_neg (by exact Nat.zero_ne_one)]
    rfl
  | ⟨1, _⟩ =>
    unfold GatherDims.siIdx
    rw [dif_pos (by rfl)]
    exact Fin.ext rfl

/-- Where the gather from a table reads: the table row and the axis that the two indices name, clamped. -/
theorem op_tab (m : Fin 131072) (h : Fin 6) (d : Fin 32) (idx : IVec S131072x2 32) :
    gather_S64x6x32x3_S131072x2_S131072x6x32_12_03_n_n_03_1_16321.operandIdx (ix3 m h d) idx
      = ix4 ⟨min (idx (ix2 m 0)).toInt.toNat 63, by omega⟩ h d ⟨min (idx (ix2 m 1)).toInt.toNat 2, by omega⟩ := by
  funext a
  apply Fin.ext
  match a with
  | ⟨0, _⟩ =>
    show GatherDims.start _ _ _ 0 + GatherDims.batchCoord _ _ 0 + GatherDims.offCoord _ _ 0 = _
    rw [GatherDims.batchCoord_eq_zero _ _ _ (by decide), GatherDims.offCoord_eq_zero _ _ _ (by decide)]
    unfold GatherDims.start
    rw [dif_pos (by decide)]
    exact congrArg (fun i => min (idx i).toInt.toNat 63) (si_tab m h d _)
  | ⟨1, _⟩ =>
    show GatherDims.start _ _ _ 1 + GatherDims.batchCoord _ _ 1 + GatherDims.offCoord _ _ 1 = _
    rw [GatherDims.batchCoord_eq_zero _ _ _ (by decide)]
    unfold GatherDims.start GatherDims.offCoord
    rw [dif_neg (by decide), dif_pos (by decide)]
    show 0 + 0 + h.val = h.val
    omega
  | ⟨2, _⟩ =>
    show GatherDims.start _ _ _ 2 + GatherDims.batchCoord _ _ 2 + GatherDims.offCoord _ _ 2 = _
    rw [GatherDims.batchCoord_eq_zero _ _ _ (by decide)]
    unfold GatherDims.start GatherDims.offCoord
    rw [dif_neg (by decide), dif_pos (by decide)]
    show 0 + 0 + d.val = d.val
    omega
  | ⟨3, _⟩ =>
    show GatherDims.start _ _ _ 3 + GatherDims.batchCoord _ _ 3 + GatherDims.offCoord _ _ 3 = _
    rw [GatherDims.batchCoord_eq_zero _ _ _ (by decide), GatherDims.offCoord_eq_zero _ _ _ (by decide)]
    unfold GatherDims.start
    rw [dif_pos (by decide)]
    exact congrArg (fun i => min (idx i).toInt.toNat 2) (si_tab m h d _)

/-- The gathered row of a pair is the row its word names. -/
theorem gather_rows (y : FVec Ideal S8192x6x32 .f32) (idx : IVec S131072x1 32) (m : Fin 131072) (n : Fin 8192)
    (e : idx (ix2 m 0) = BitVec.ofNat 32 n.val) (h : Fin 6) (d : Fin 32) :
    Host.gather gather_S8192x6x32_S131072x1_S131072x6x32_12_0_n_n_0_1_1632 y idx (ix3 m h d)
      = y (ix3 n h d) := by
  unfold Host.gather
  rw [op_rows]
  refine congrArg (fun k => y (ix3 k h d)) (Fin.ext ?_)
  show min (idx (ix2 m 0)).toInt.toNat 8191 = n.val
  rw [e, toInt_nat n.val n.isLt]
  omega

/-- The gathered row of a pair is the row its word names. -/
theorem gather_xyz (y : FVec Ideal S8192x3 .f32) (idx : IVec S131072x1 32) (m : Fin 131072) (n : Fin 8192)
    (e : idx (ix2 m 0) = BitVec.ofNat 32 n.val) (a : Fin 3) :
    Host.gather gather_S8192x3_S131072x1_S131072x3_1_0_n_n_0_1_13 y idx (ix2 m a)
      = y (ix2 n a) := by
  unfold Host.gather
  rw [op_xyz]
  refine congrArg (fun k => y (ix2 k a)) (Fin.ext ?_)
  show min (idx (ix2 m 0)).toInt.toNat 8191 = n.val
  rw [e, toInt_nat n.val n.isLt]
  omega

/-- The gathered row of a pair is the row its word names. -/
theorem gather_heads (y : FVec Ideal S8192x6 .f32) (idx : IVec S131072x1 32) (m : Fin 131072) (n : Fin 8192)
    (e : idx (ix2 m 0) = BitVec.ofNat 32 n.val) (h : Fin 6) :
    Host.gather gather_S8192x6_S131072x1_S131072x6_1_0_n_n_0_1_16 y idx (ix2 m h)
      = y (ix2 n h) := by
  unfold Host.gather
  rw [op_heads]
  refine congrArg (fun k => y (ix2 k h)) (Fin.ext ?_)
  show min (idx (ix2 m 0)).toInt.toNat 8191 = n.val
  rw [e, toInt_nat n.val n.isLt]
  omega

/-- The gathered table entry of a pair, at the row and axis its two words name. -/
theorem gather_tab (y : FVec Ideal S64x6x32x3 .f32) (idx : IVec S131072x2 32) (m : Fin 131072)
    (l : Fin 64) (a : Fin 3) (e0 : idx (ix2 m 0) = BitVec.ofNat 32 l.val)
    (e1 : idx (ix2 m 1) = BitVec.ofNat 32 a.val) (h : Fin 6) (d : Fin 32) :
    Host.gather gather_S64x6x32x3_S131072x2_S131072x6x32_12_03_n_n_03_1_16321 y idx (ix3 m h d)
      = y (ix4 l h d a) := by
  unfold Host.gather
  rw [op_tab]
  refine congrArg y ?_
  have h0 : (⟨min (idx (ix2 m 0)).toInt.toNat 63, by omega⟩ : Fin 64) = l := Fin.ext (by
    show min (idx (ix2 m 0)).toInt.toNat 63 = l.val
    rw [e0, toInt_nat l.val (by omega)]; omega)
  have h1 : (⟨min (idx (ix2 m 1)).toInt.toNat 2, by omega⟩ : Fin 3) = a := Fin.ext (by
    show min (idx (ix2 m 1)).toInt.toNat 2 = a.val
    rw [e1, toInt_nat a.val (by omega)]; omega)
  exact congrArg₂ (fun p q => ix4 p h d q) h0 h1

/-- The start index of this scatter: the pair's row of the index array. -/
theorem ssi_heads (m : Fin 131072) (h : Fin 6) (k : Fin scatter_S8192x6_S131072x1_S131072x6_1_0_0_1.scatterDimsToOperandDims.length) :
    scatter_S8192x6_S131072x1_S131072x6_1_0_0_1.siIdx (ix2 m h) k = ix2 m ⟨k.val, k.isLt⟩ := by
  funext b
  match b with
  | ⟨0, _⟩ =>
    unfold ScatterDims.siIdx
    rw [dif_neg (by exact Nat.zero_ne_one)]
    rfl
  | ⟨1, _⟩ =>
    unfold ScatterDims.siIdx
    rw [dif_pos (by rfl)]
    exact Fin.ext rfl

/-- Where the segment sum over heads writes: the row that the index names. -/
theorem sst_heads (m : Fin 131072) (h : Fin 6) (idx : IVec S131072x1 32) :
    scatter_S8192x6_S131072x1_S131072x6_1_0_0_1.start (ix2 m h) idx 0 + ((scatter_S8192x6_S131072x1_S131072x6_1_0_0_1.window (ix2 m h) 0 : Nat) : Int) = (idx (ix2 m 0)).toInt := by
  unfold ScatterDims.start ScatterDims.window
  rw [dif_pos (by decide), dif_neg (by decide)]
  show _ + 0 = _
  rw [Int.add_zero]
  exact congrArg (fun i => (idx i).toInt) (ssi_heads m h _)

/-- It keeps the head. -/
theorem sw1_heads (m : Fin 131072) (h : Fin 6) (idx : IVec S131072x1 32) :
    scatter_S8192x6_S131072x1_S131072x6_1_0_0_1.start (ix2 m h) idx 1 + ((scatter_S8192x6_S131072x1_S131072x6_1_0_0_1.window (ix2 m h) 1 : Nat) : Int) = (h.val : Int) := by
  unfold ScatterDims.start ScatterDims.window
  rw [dif_neg (by decide), dif_pos (by decide)]
  show 0 + (h.val : Int) = h.val
  omega

/-- A pair's update lands exactly at the row its word names, in its own place there. -/
theorem land_heads (m : Fin 131072) (n n' : Fin 8192) (h : Fin 6) (h' : Fin 6) (idx : IVec S131072x1 32)
    (e : idx (ix2 m 0) = BitVec.ofNat 32 n'.val) :
    scatter_S8192x6_S131072x1_S131072x6_1_0_0_1.resultIdx? (ix2 m h) idx = some (ix2 n h') ↔ n' = n ∧ h = h' := by
  rw [Routing.resultIdx?_eq_some]
  have s0 := sst_heads m h idx
  rw [e, toInt_nat n'.val n'.isLt] at s0
  have s1 := sw1_heads m h idx
  constructor
  · intro q
    have q0 := (s0.symm.trans (q 0) : (n'.val : Int) = n.val)
    have q1 := (s1.symm.trans (q 1) : (h.val : Int) = h'.val)
    exact ⟨Fin.ext (by omega), Fin.ext (by omega)⟩
  · rintro ⟨rfl, rfl⟩ a
    match a with
    | ⟨0, _⟩ => exact s0
    | ⟨1, _⟩ => exact s1

/-- The scatter sum at a row: what was there plus the row's sixteen pairs. -/
theorem scatter_heads (x : FVec Ideal S8192x6 .f32) (idx : IVec S131072x1 32) (upd : FVec Ideal S131072x6 .f32)
    (hi : ∀ n j, idx (ix2 (pr n j) 0) = BitVec.ofNat 32 n.val) (n : Fin 8192) (h : Fin 6) :
    (Host.scatterAdd scatter_S8192x6_S131072x1_S131072x6_1_0_0_1 x idx upd : FVec Ideal S8192x6 .f32) (ix2 n h)
      = x (ix2 n h) + ∑ j : Fin 16, upd (ix2 (pr n j) h) := by
  show x (ix2 n h) + _ = _
  refine congrArg (x (ix2 n h) + ·) ?_
  symm
  refine Finset.sum_nbij (fun j => ix2 (pr n j) h) ?_ ?_ ?_ (fun _ _ => rfl)
  · intro j _
    rw [Finset.mem_filter]
    exact ⟨Finset.mem_univ _, (land_heads (pr n j) n n h h idx (hi n j)).2 ⟨rfl, rfl⟩⟩
  · intro j _ j' _ q
    exact (pr_inj (congrFun q 0)).2
  · intro k hk
    have hk' := (Finset.mem_filter.1 hk).2
    obtain ⟨n', j, e⟩ := pr_surj (k 0)
    have ek : k = ix2 (pr n' j) (k 1) := by
      rw [← e]; exact eq_ix2 k
    rw [ek] at hk'
    obtain ⟨a0, a1⟩ := (land_heads _ n n' _ h idx (hi n' j)).1 hk'
    refine ⟨j, Finset.mem_univ _, ?_⟩
    show ix2 (pr n j) h = k
    rw [ek, a0, a1]; rfl

/-- The start index of this scatter: the pair's row of the index array. -/
theorem ssi_rows (m : Fin 131072) (h : Fin 6) (d : Fin 32) (k : Fin scatter_S8192x6x32_S131072x1_S131072x6x32_12_0_0_1.scatterDimsToOperandDims.length) :
    scatter_S8192x6x32_S131072x1_S131072x6x32_12_0_0_1.siIdx (ix3 m h d) k = ix2 m ⟨k.val, k.isLt⟩ := by
  funext b
  match b with
  | ⟨0, _⟩ =>
    unfold ScatterDims.siIdx
    rw [dif_neg (by exact Nat.zero_ne_one)]
    rfl
  | ⟨1, _⟩ =>
    unfold ScatterDims.siIdx
    rw [dif_pos (by rfl)]
    exact Fin.ext rfl

/-- Where the segment sum over rows of heads writes: the row that the index names. -/
theorem sst_rows (m : Fin 131072) (h : Fin 6) (d : Fin 32) (idx : IVec S131072x1 32) :
    scatter_S8192x6x32_S131072x1_S131072x6x32_12_0_0_1.start (ix3 m h d) idx 0 + ((scatter_S8192x6x32_S131072x1_S131072x6x32_12_0_0_1.window (ix3 m h d) 0 : Nat) : Int) = (idx (ix2 m 0)).toInt := by
  unfold ScatterDims.start ScatterDims.window
  rw [dif_pos (by decide), dif_neg (by decide)]
  show _ + 0 = _
  rw [Int.add_zero]
  exact congrArg (fun i => (idx i).toInt) (ssi_rows m h d _)

/-- It keeps the head. -/
theorem sw1_rows (m : Fin 131072) (h : Fin 6) (d : Fin 32) (idx : IVec S131072x1 32) :
    scatter_S8192x6x32_S131072x1_S131072x6x32_12_0_0_1.start (ix3 m h d) idx 1 + ((scatter_S8192x6x32_S131072x1_S131072x6x32_12_0_0_1.window (ix3 m h d) 1 : Nat) : Int) = (h.val : Int) := by
  unfold ScatterDims.start ScatterDims.window
  rw [dif_neg (by decide), dif_pos (by decide)]
  show 0 + (h.val : Int) = h.val
  omega

/-- It keeps the place in the head. -/
theorem sw2_rows (m : Fin 131072) (h : Fin 6) (d : Fin 32) (idx : IVec S131072x1 32) :
    scatter_S8192x6x32_S131072x1_S131072x6x32_12_0_0_1.start (ix3 m h d) idx 2 + ((scatter_S8192x6x32_S131072x1_S131072x6x32_12_0_0_1.window (ix3 m h d) 2 : Nat) : Int) = (d.val : Int) := by
  unfold ScatterDims.start ScatterDims.window
  rw [dif_neg (by decide), dif_pos (by decide)]
  show 0 + (d.val : Int) = d.val
  omega

/-- A pair's update lands exactly at the row its word names, in its own place there. -/
theorem land_rows (m : Fin 131072) (n n' : Fin 8192) (h : Fin 6) (d : Fin 32) (h' : Fin 6) (d' : Fin 32) (idx : IVec S131072x1 32)
    (e : idx (ix2 m 0) = BitVec.ofNat 32 n'.val) :
    scatter_S8192x6x32_S131072x1_S131072x6x32_12_0_0_1.resultIdx? (ix3 m h d) idx = some (ix3 n h' d') ↔ n' = n ∧ h = h' ∧ d = d' := by
  rw [Routing.resultIdx?_eq_some]
  have s0 := sst_rows m h d idx
  rw [e, toInt_nat n'.val n'.isLt] at s0
  have s1 := sw1_rows m h d idx
  have s2 := sw2_rows m h d idx
  constructor
  · intro q
    have q0 := (s0.symm.trans (q 0) : (n'.val : Int) = n.val)
    have q1 := (s1.symm.trans (q 1) : (h.val : Int) = h'.val)
    have q2 := (s2.symm.trans (q 2) : (d.val : Int) = d'.val)
    exact ⟨Fin.ext (by omega), Fin.ext (by omega), Fin.ext (by omega)⟩
  · rintro ⟨rfl, rfl, rfl⟩ a
    match a with
    | ⟨0, _⟩ => exact s0
    | ⟨1, _⟩ => exact s1
    | ⟨2, _⟩ => exact s2

/-- The scatter sum at a row: what was there plus the row's sixteen pairs. -/
theorem scatter_rows (x : FVec Ideal S8192x6x32 .f32) (idx : IVec S131072x1 32) (upd : FVec Ideal S131072x6x32 .f32)
    (hi : ∀ n j, idx (ix2 (pr n j) 0) = BitVec.ofNat 32 n.val) (n : Fin 8192) (h : Fin 6) (d : Fin 32) :
    (Host.scatterAdd scatter_S8192x6x32_S131072x1_S131072x6x32_12_0_0_1 x idx upd : FVec Ideal S8192x6x32 .f32) (ix3 n h d)
      = x (ix3 n h d) + ∑ j : Fin 16, upd (ix3 (pr n j) h d) := by
  show x (ix3 n h d) + _ = _
  refine congrArg (x (ix3 n h d) + ·) ?_
  symm
  refine Finset.sum_nbij (fun j => ix3 (pr n j) h d) ?_ ?_ ?_ (fun _ _ => rfl)
  · intro j _
    rw [Finset.mem_filter]
    exact ⟨Finset.mem_univ _, (land_rows (pr n j) n n h d h d idx (hi n j)).2 ⟨rfl, rfl, rfl⟩⟩
  · intro j _ j' _ q
    exact (pr_inj (congrFun q 0)).2
  · intro k hk
    have hk' := (Finset.mem_filter.1 hk).2
    obtain ⟨n', j, e⟩ := pr_surj (k 0)
    have ek : k = ix3 (pr n' j) (k 1) (k 2) := by
      rw [← e]; exact eq_ix3 k
    rw [ek] at hk'
    obtain ⟨a0, a1, a2⟩ := (land_rows _ n n' _ _ h d idx (hi n' j)).1 hk'
    refine ⟨j, Finset.mem_univ _, ?_⟩
    show ix3 (pr n j) h d = k
    rw [ek, a0, a1, a2]; rfl

end WinAttn.Ref
-- ==== Proof.RQkv.lean ====
module

public import proofs.«01_k».proof.Proof.Cell
public import proofs.«01_k».proof.Proof.RIdx

@[expose] public section

set_option maxRecDepth 16384

noncomputable section

open Idealize.ShloMosaic Idealize.ShloMosaic.TcCoe Idealize.SL.Sem

/-! The reference's projected features read at a point, a head and a lane. -/

namespace WinAttn.Ref

open Cert.ReferenceIdeal Cert.ReferenceIdeal.Gen Cert.ReferenceIdeal.Read

variable (x0 : FVec Ideal S8192x192 .f32) (x7 : FVec Ideal S576x192 .f32) (x8 : FVec Ideal S576 .f32)

/-- The projected features of the reference's arguments. -/
abbrev pf (n : Fin 8192) (c : Fin 576) : EReal :=
  qkv (fun n d => x0 (ix2 n d)) (fun c d => x7 (ix2 c d)) (fun c => x8 (ix1 c)) n c

/-- The projected features. -/
theorem v4_at (n : Fin 8192) (c : Fin 576) : val_main_v4 (F := Ideal) x0 x7 x8 (ix2 n c) = pf x0 x7 x8 n c := by
  pointwise [val_main_v4, val_main_v3, val_main_v2, val_main_v1, val_main_v0]
  rfl

/-- The values, by heads. -/
theorem v12_at (n : Fin 8192) (h : Fin 6) (d : Fin 32) :
    val_main_v12 (F := Ideal) x0 x7 x8 (ix3 n h d) = pf x0 x7 x8 n (cv (hd h d)) := by
  rw [← v4_at]
  pointwise [val_main_v12, val_main_v11, val_main_v6, val_main_v5]
  refine congrArg (fun c => val_main_v4 (F := Ideal) x0 x7 x8 (ix2 n c)) (Fin.ext ?_)
  show 384 + h.val * 32 + d.val = 384 + (h.val * 32 + d.val)
  omega

/-- The keys, by heads. -/
theorem v10_at (n : Fin 8192) (h : Fin 6) (d : Fin 32) :
    val_main_v10 (F := Ideal) x0 x7 x8 (ix3 n h d) = pf x0 x7 x8 n (ck (hd h d)) := by
  rw [← v4_at]
  pointwise [val_main_v10, val_main_v9, val_main_v6, val_main_v5]
  refine congrArg (fun c => val_main_v4 (F := Ideal) x0 x7 x8 (ix2 n c)) (Fin.ext ?_)
  show 192 + h.val * 32 + d.val = 192 + (h.val * 32 + d.val)
  omega

/-- The queries, by heads. -/
theorem v8_at (n : Fin 8192) (h : Fin 6) (d : Fin 32) :
    val_main_v8 (F := Ideal) x0 x7 x8 (ix3 n h d) = pf x0 x7 x8 n (cq (hd h d)) := by
  rw [← v4_at]
  pointwise [val_main_v8, val_main_v7, val_main_v6, val_main_v5]
  refine congrArg (fun c => val_main_v4 (F := Ideal) x0 x7 x8 (ix2 n c)) (Fin.ext ?_)
  show h.val * 32 + d.val = h.val * 32 + d.val
  omega

/-- The query over the root of the head's width. -/
theorem v15_at (n : Fin 8192) (h : Fin 6) (d : Fin 32) :
    val_main_v15 (F := Ideal) x0 x7 x8 (ix3 n h d) = pf x0 x7 x8 n (cq (hd h d)) * (((Real.sqrt 32)⁻¹ : ℝ) : EReal) := by
  rw [← v8_at]
  pointwise [val_main_v15, val_main_v14, val_main_v13, val_main_cst]
  rw [ofBits_thirtytwo, Ideal.sqrt_coe, if_neg (by norm_num), Ideal.div_coe (by positivity), one_div]

end WinAttn.Ref

end
-- ==== Proof.RPos.lean ====
module

public import proofs.«01_k».proof.Proof.RQkv

@[expose] public section

set_option maxRecDepth 16384

noncomputable section

open Idealize.ShloMosaic Idealize.ShloMosaic.TcCoe Idealize.SL.Sem

/-! The reference's words and relative positions read at a pair. -/

namespace WinAttn.Ref

open Cert.ReferenceIdeal Cert.ReferenceIdeal.Gen Cert.ReferenceIdeal.Read

/-- A small word is not negative, so the wrap of a negative index keeps it. -/
theorem wrap_word (k : Nat) (hk : k < 8192) (c : BitVec 32) :
    Scalar.select (IntOp.cmpi .slt (BitVec.ofNat 32 k) 0#32) (IntOp.addi (BitVec.ofNat 32 k) c) (BitVec.ofNat 32 k)
      = BitVec.ofNat 32 k := by
  have h : IntOp.cmpi .slt (BitVec.ofNat 32 k) 0#32 = 0#1 := by
    show BitVec.ofBool ((BitVec.ofNat 32 k).slt 0#32) = 0#1
    rw [BitVec.slt_eq_decide, toInt_nat k hk]
    have : ¬ ((k : Int) < (0#32 : BitVec 32).toInt) := by
      show ¬ ((k : Int) < 0)
      omega
    rw [decide_eq_false this]; rfl
  rw [h]; rfl

variable (x1 : FVec Ideal S8192x3 .f32) (x2 x5 : IVec S131072 32) (x6 : IVec S_ 32)

/-- The words that name a pair's two points. -/
structure Words : Prop where
  own : ∀ n j, x2 (ix1 (pr n j)) = BitVec.ofNat 32 n.val
  partner : ∀ n j, x5 (ix1 (pr n j)) = BitVec.ofNat 32 (win n j).val

/-- The wrapped index array of an array of words, at a pair whose word is small. -/
theorem wrapped_at {x : IVec S131072 32} {m : Fin 131072} {k : Fin 8192} (hx : x (ix1 m) = BitVec.ofNat 32 k.val) :
    val_main_v21 (F := Ideal) x (ix2 m 0) = BitVec.ofNat 32 k.val := by
  pointwise [val_main_v21, val_main_v20, val_main_v19, val_main_v18, val_main_v17, val_main_v16, val_main_c, val_main_c_0]
  rw [hx, wrap_word _ k.isLt]

/-- The index array of a scatter, at a pair. -/
theorem column_at {x : IVec S131072 32} {m : Fin 131072} {k : Fin 8192} (hx : x (ix1 m) = BitVec.ofNat 32 k.val) :
    val_main_v168 (F := Ideal) x (ix2 m 0) = BitVec.ofNat 32 k.val := by
  pointwise [val_main_v168]
  exact hx

section words
variable {x2 x5} (hw : Words x2 x5)
include hw

/-- A pair's own row, as a gather reads it. -/
theorem v21_at (n : Fin 8192) (j : Fin 16) : val_main_v21 (F := Ideal) x2 (ix2 (pr n j) 0) = BitVec.ofNat 32 n.val :=
  wrapped_at (hw.own n j)

/-- A pair's partner, as a gather reads it. -/
theorem v28_at (n : Fin 8192) (j : Fin 16) : val_main_v28 (F := Ideal) x5 (ix2 (pr n j) 0) = BitVec.ofNat 32 (win n j).val :=
  wrapped_at (hw.partner n j)

/-- A pair's own row, as a gather reads it. -/
theorem v47_at (n : Fin 8192) (j : Fin 16) : val_main_v47 (F := Ideal) x2 (ix2 (pr n j) 0) = BitVec.ofNat 32 n.val :=
  wrapped_at (hw.own n j)

/-- A pair's partner, as a gather reads it. -/
theorem v54_at (n : Fin 8192) (j : Fin 16) : val_main_v54 (F := Ideal) x5 (ix2 (pr n j) 0) = BitVec.ofNat 32 (win n j).val :=
  wrapped_at (hw.partner n j)

/-- A pair's own row, as a gather reads it. -/
theorem v163_at (n : Fin 8192) (j : Fin 16) : val_main_v163 (F := Ideal) x2 (ix2 (pr n j) 0) = BitVec.ofNat 32 n.val :=
  wrapped_at (hw.own n j)

/-- A pair's own row, as a gather reads it. -/
theorem v175_at (n : Fin 8192) (j : Fin 16) : val_main_v175 (F := Ideal) x2 (ix2 (pr n j) 0) = BitVec.ofNat 32 n.val :=
  wrapped_at (hw.own n j)

/-- A pair's partner, as a gather reads it. -/
theorem v224_at (n : Fin 8192) (j : Fin 16) : val_main_v224 (F := Ideal) x5 (ix2 (pr n j) 0) = BitVec.ofNat 32 (win n j).val :=
  wrapped_at (hw.partner n j)

/-- A pair's own row, as a segment sum reads it. -/
theorem v168_at (n : Fin 8192) (j : Fin 16) : val_main_v168 (F := Ideal) x2 (ix2 (pr n j) 0) = BitVec.ofNat 32 n.val :=
  column_at (hw.own n j)

/-- A pair's own row, as a segment sum reads it. -/
theorem v231_at (n : Fin 8192) (j : Fin 16) : val_main_v231 (F := Ideal) x2 (ix2 (pr n j) 0) = BitVec.ofNat 32 n.val :=
  column_at (hw.own n j)

end words

/-- The point's position past the least one, shifted. -/
theorem v37_at (n : Fin 8192) (a : Fin 3) : val_main_v37 (F := Ideal) x1 x6 (ix2 n a) =
    x1 (ix2 n a) - val_main_v31 (F := Ideal) x1 (ix1 a) + (((x6 ix0).toInt : ℝ) : EReal) := by
  pointwise [val_main_v37, val_main_v36, val_main_v35, val_main_v34, val_main_v33, val_main_v32]
  rfl

/-- A point's cell on an axis. -/
theorem v41_at (r : ℝ) (n : Fin 8192) (a : Fin 3) (hr : val_main_v37 (F := Ideal) x1 x6 (ix2 n a) = (r : EReal)) :
    val_main_v41 (F := Ideal) x1 x6 (ix2 n a) = ((cell r : ℝ) : EReal) := by
  have e4 : id (constant (F := Ideal) S_ FTy.f32 1082130432#32) ix0 = ((4 : ℝ) : EReal) := ofBits_four
  pointwise [val_main_v41, val_main_v40, val_main_v39, val_main_cst_5, val_main_v38, val_main_call0_v12, val_main_call0_v11,
    val_main_call0_v10, val_main_call0_v9, val_main_call0_v8, val_main_call0_v7, val_main_call0_v6, val_main_call0_v5,
    val_main_call0_v4, val_main_call0_v3, val_main_call0_v2, val_main_call0_v1, val_main_call0_v0, val_main_call0_cst,
    val_main_call0_cst_0, val_main_call0_cst_1, val_main_cst_4]
  rw [hr, e4, ofBits_quarter, ← cell_floor, ← floor_quarter]
  exact congrArg (fun y => Ideal.liftRound Int.floor (Ideal.div y ((1 / 4 : ℝ) : EReal))) (pymod_host r)

section rel
variable {x2 x5} (hw : Words x2 x5) (r : Fin 8192 → Fin 3 → ℝ)
  (hr : ∀ n a, val_main_v37 (F := Ideal) x1 x6 (ix2 n a) = (r n a : EReal))
include hw hr

/-- The table row of a pair on an axis: the difference of its cells, moved to be nonnegative. -/
abbrev rw3 (r : Fin 8192 → Fin 3 → ℝ) (n : Fin 8192) (j : Fin 16) (a : Fin 3) : Fin 64 :=
  ⟨rel (cell (r n a)) (cell (r (win n j) a)), rel_lt (cell_lt _)⟩

/-- The word of that row. -/
theorem v61_at (n : Fin 8192) (j : Fin 16) (a : Fin 3) :
    val_main_v61 (F := Ideal) x1 x2 x5 x6 (ix2 (pr n j) a) = BitVec.ofNat 32 (rw3 r n j a).val := by
  have h48 : val_main_v48 (F := Ideal) x1 x2 x6 (ix2 (pr n j) a) = ((cell (r n a) : ℝ) : EReal) := by
    unfold val_main_v48
    rw [gather_xyz _ _ _ n (v47_at hw n j), v41_at x1 x6 _ n a (hr n a)]
  have h55 : val_main_v55 (F := Ideal) x1 x5 x6 (ix2 (pr n j) a) = ((cell (r (win n j) a) : ℝ) : EReal) := by
    unfold val_main_v55
    rw [gather_xyz _ _ _ (win n j) (v54_at hw n j), v41_at x1 x6 _ (win n j) a (hr (win n j) a)]
  pointwise [val_main_v61, val_main_v60, val_main_v59, val_main_v58, val_main_v57, val_main_v56, val_main_cst_10, val_main_cst_11]
  rw [h48, h55, ofBits_sixteen, ← EReal.coe_one]
  have e : ((cell (r n a) : ℝ) : EReal) - ((cell (r (win n j) a) : ℝ) : EReal) + ((16 : ℝ) : EReal) - ((1 : ℝ) : EReal)
      = ((rel (cell (r n a)) (cell (r (win n j) a)) : ℝ) : EReal) := by
    rw [← rel_cast (cell_lt _), ← EReal.coe_sub, ← EReal.coe_add, ← EReal.coe_sub, ← EReal.coe_add]
    congr 1; ring
  rw [e]
  exact fptosi_nat _ (lt_trans (rel_lt (cell_lt _)) (by norm_num))

/-- A pair's table entry on each axis. -/
theorem v74_at (n : Fin 8192) (j : Fin 16) (T : FVec Ideal S64x6x32x3 .f32) (h : Fin 6) (d : Fin 32) :
    val_main_v74 (F := Ideal) x1 x2 x5 x6 T (ix3 (pr n j) h d) = T (ix4 (rw3 r n j 0) h d 0) := by
  unfold val_main_v74
  refine gather_tab T _ (pr n j) (rw3 r n j 0) 0 ?_ ?_ h d
  · pointwise [val_main_v73, val_main_v72, val_main_v71, val_main_v70, val_main_v69, val_main_v68, val_main_v67, val_main_v66, val_main_v65, val_main_v64, val_main_v63, val_main_v62, val_main_c_12, val_main_c_13, val_main_c_14]
    rw [v61_at x1 x6 hw r hr, wrap_word _ (lt_trans (rw3 r n j 0).isLt (by norm_num))]
  · pointwise [val_main_v73, val_main_v72, val_main_v71, val_main_v70, val_main_v69, val_main_v68, val_main_v67, val_main_v66, val_main_v65, val_main_v64, val_main_v63, val_main_v62, val_main_c_12, val_main_c_13, val_main_c_14]
    rfl

/-- A table entry on the second axis. -/
theorem v87_at (n : Fin 8192) (j : Fin 16) (T : FVec Ideal S64x6x32x3 .f32) (h : Fin 6) (d : Fin 32) :
    val_main_v87 (F := Ideal) x1 x2 x5 x6 T (ix3 (pr n j) h d) = T (ix4 (rw3 r n j 1) h d 1) := by
  unfold val_main_v87
  refine gather_tab T _ (pr n j) (rw3 r n j 1) 1 ?_ ?_ h d
  · pointwise [val_main_v86, val_main_v85, val_main_v84, val_main_v83, val_main_v82, val_main_v81, val_main_v80, val_main_v79, val_main_v78, val_main_v77, val_main_v76, val_main_v75, val_main_c_15, val_main_c_16, val_main_c_17]
    rw [v61_at x1 x6 hw r hr, wrap_word _ (lt_trans (rw3 r n j 1).isLt (by norm_num))]
  · pointwise [val_main_v86, val_main_v85, val_main_v84, val_main_v83, val_main_v82, val_main_v81, val_main_v80, val_main_v79, val_main_v78, val_main_v77, val_main_v76, val_main_v75, val_main_c_15, val_main_c_16, val_main_c_17]
    rfl

/-- A table entry on the third axis. -/
theorem v101_at (n : Fin 8192) (j : Fin 16) (T : FVec Ideal S64x6x32x3 .f32) (h : Fin 6) (d : Fin 32) :
    val_main_v101 (F := Ideal) x1 x2 x5 x6 T (ix3 (pr n j) h d) = T (ix4 (rw3 r n j 2) h d 2) := by
  unfold val_main_v101
  refine gather_tab T _ (pr n j) (rw3 r n j 2) 2 ?_ ?_ h d
  · pointwise [val_main_v100, val_main_v99, val_main_v98, val_main_v97, val_main_v96, val_main_v95, val_main_v94, val_main_v93, val_main_v92, val_main_v91, val_main_v90, val_main_v89, val_main_c_18, val_main_c_19, val_main_c_20]
    rw [v61_at x1 x6 hw r hr, wrap_word _ (lt_trans (rw3 r n j 2).isLt (by norm_num))]
  · pointwise [val_main_v100, val_main_v99, val_main_v98, val_main_v97, val_main_v96, val_main_v95, val_main_v94, val_main_v93, val_main_v92, val_main_v91, val_main_v90, val_main_v89, val_main_c_18, val_main_c_19, val_main_c_20]
    rfl

/-- The sum of a pair's three table entries. -/
theorem v102_at (n : Fin 8192) (j : Fin 16) (T : FVec Ideal S64x6x32x3 .f32) (h : Fin 6) (d : Fin 32) :
    val_main_v102 (F := Ideal) x1 x2 x5 x6 T (ix3 (pr n j) h d)
      = ∑ a : Fin 3, T (ix4 (rw3 r n j a) h d a) := by
  pointwise [val_main_v102, val_main_v88]
  rw [v74_at x1 x6 hw r hr, v87_at x1 x6 hw r hr, v101_at x1 x6 hw r hr, Fin.sum_univ_three]

/-- The key's relative term is the same three entries of its table. -/
theorem v143_at (n : Fin 8192) (j : Fin 16) (T : FVec Ideal S64x6x32x3 .f32) (h : Fin 6) (d : Fin 32) :
    val_main_v143 (F := Ideal) x1 x2 x5 x6 T (ix3 (pr n j) h d) = ∑ a : Fin 3, T (ix4 (rw3 r n j a) h d a) :=
  v102_at x1 x6 hw r hr n j T h d

/-- The value's relative term likewise. -/
theorem v218_at (n : Fin 8192) (j : Fin 16) (T : FVec Ideal S64x6x32x3 .f32) (h : Fin 6) (d : Fin 32) :
    val_main_v218 (F := Ideal) x1 x2 x5 x6 T (ix3 (pr n j) h d) = ∑ a : Fin 3, T (ix4 (rw3 r n j a) h d a) :=
  v102_at x1 x6 hw r hr n j T h d

end rel

end WinAttn.Ref

end
-- ==== Proof.RMax.lean ====
module

public import proofs.«01_k».proof.Proof.RPos

@[expose] public section

set_option maxRecDepth 16384

noncomputable section

open Idealize.ShloMosaic Idealize.ShloMosaic.TcCoe Idealize.SL.Sem

/-! The reference's logits and their greatest over a row's pairs. -/

namespace WinAttn.Ref

open Cert.ReferenceIdeal Cert.ReferenceIdeal.Gen Cert.ReferenceIdeal.Read

/-- An extended real that is neither end is a real. -/
theorem isReal_of_between {x y : EReal} (hy : IsReal y) (h : y ≤ x) (ht : x < ⊤) : IsReal x := by
  obtain ⟨b, rfl⟩ := hy
  induction x using EReal.rec with
  | bot => exact absurd h (not_le.2 (EReal.bot_lt_coe b))
  | coe r => exact ⟨r, rfl⟩
  | top => exact absurd ht (lt_irrefl _)

/-- The greatest of values that are real or the bottom, one of them real, is real. -/
theorem fold_max_real {ι : Type*} [Fintype ι] (f : ι → EReal) (hf : ∀ i, IsReal (f i) ∨ f i = ⊥) (i : ι) (hi : IsReal (f i)) :
    IsReal (Finset.univ.fold max ⊥ f) := by
  refine isReal_of_between hi ?_ ?_
  · exact (Finset.le_fold_max (f i)).2 (Or.inr ⟨i, Finset.mem_univ i, le_refl _⟩)
  · refine (Finset.fold_max_lt ⊤).2 ⟨bot_lt_top, fun k _ => ?_⟩
    rcases hf k with ⟨b, e⟩ | e
    · rw [e]; exact EReal.coe_lt_top b
    · rw [e]; exact bot_lt_top

/-- The least of reals is real. -/
theorem fold_min_real {ι : Type*} [Fintype ι] (f : ι → EReal) (hf : ∀ i, IsReal (f i)) (i : ι) :
    IsReal (Finset.univ.fold min ⊤ f) := by
  have h1 : ⊥ < Finset.univ.fold min ⊤ f := by
    refine (Finset.lt_fold_min ⊥).2 ⟨bot_lt_top, fun k _ => ?_⟩
    obtain ⟨b, e⟩ := hf k
    rw [e]; exact EReal.bot_lt_coe b
  have h2 : Finset.univ.fold min ⊤ f ≤ f i := (Finset.fold_min_le (f i)).2 (Or.inr ⟨i, Finset.mem_univ i, le_refl _⟩)
  obtain ⟨b, e⟩ := hf i
  rw [e] at h2
  generalize Finset.univ.fold min ⊤ f = x at h1 h2
  induction x using EReal.rec with
  | bot => exact absurd h1 (lt_irrefl _)
  | coe r => exact ⟨r, rfl⟩
  | top => exact absurd h2 (not_le.2 (EReal.coe_lt_top b))

variable (x0 : FVec Ideal S8192x192 .f32) (x1 : FVec Ideal S8192x3 .f32) {x2 x5 : IVec S131072 32} (x6 : IVec S_ 32)
  (x7 : FVec Ideal S576x192 .f32) (x8 : FVec Ideal S576 .f32) (x11 x12 x13 : FVec Ideal S64x6x32x3 .f32)

/-- The least coordinate on an axis is real when every coordinate is. -/
theorem v31_real (h1 : ∀ n a, IsReal (x1 (ix2 n a))) (a : Fin 3) : IsReal (val_main_v31 (F := Ideal) x1 (ix1 a)) := by
  pointwise [val_main_v31, val_main_cst_3]
  rw [ofBits_top]
  exact fold_min_real _ (fun n => h1 n a) 0

/-- The arguments' entries the logits read are real. -/
structure Reals : Prop where
  feats : ∀ n d, IsReal (x0 (ix2 n d))
  weights : ∀ (c : Fin 576) d, c.val < 384 → IsReal (x7 (ix2 c d))
  offsets : ∀ (c : Fin 576), c.val < 384 → IsReal (x8 (ix1 c))
  tableQ : ∀ (l : Fin 64) h d a, l.val < 31 → IsReal (x11 (ix4 l h d a))
  tableK : ∀ (l : Fin 64) h d a, l.val < 31 → IsReal (x12 (ix4 l h d a))

/-- A table as a function of its four coordinates. -/
abbrev tb (T : FVec Ideal S64x6x32x3 .f32) : Fin 64 → Fin 6 → Fin 32 → Fin 3 → EReal := fun l h d a => T (ix4 l h d a)

variable (r : Fin 8192 → Fin 3 → ℝ)

/-- A row's scaled query. -/
abbrev qq (n : Fin 8192) : Fin 16 → Fin 192 → EReal := fun _ c => pf x0 x7 x8 n (cq c) * (((Real.sqrt 32)⁻¹ : ℝ) : EReal)
/-- The keys of a row's window. -/
abbrev kk (n : Fin 8192) : Fin 16 → Fin 192 → EReal := fun j c => pf x0 x7 x8 (win n j) (ck c)
/-- The values of a row's window. -/
abbrev vv (n : Fin 8192) : Fin 16 → Fin 192 → EReal := fun j c => pf x0 x7 x8 (win n j) (cv c)
/-- The relative terms of a row's window, from one table. -/
abbrev tt (T : FVec Ideal S64x6x32x3 .f32) (n : Fin 8192) : Fin 16 → Fin 192 → EReal := fun j c => tab (tb T) r n j c

/-- A column made of a head and a place has that head. -/
theorem headOf_hd (h : Fin 6) (d : Fin 32) : headOf (hd h d) = h := Fin.ext (by show (h.val * 32 + d.val) / 32 = h.val; omega)
/-- A column made of a head and a place has that place. -/
theorem dimOf_hd (h : Fin 6) (d : Fin 32) : dimOf (hd h d) = d := Fin.ext (by show (h.val * 32 + d.val) % 32 = d.val; omega)

/-- A relative term is three table entries. -/
theorem tt_hd (T : FVec Ideal S64x6x32x3 .f32) (n : Fin 8192) (j : Fin 16) (h : Fin 6) (d : Fin 32) :
    tt r T n j (hd h d) = ∑ a : Fin 3, T (ix4 (rw3 r n j a) h d a) := by
  unfold tt tab
  rw [headOf_hd, dimOf_hd]

/-- The table rows that are read are the first 31. -/
theorem rw3_lt (n : Fin 8192) (j : Fin 16) (a : Fin 3) : (rw3 r n j a).val < 31 := by
  show rel (cell (r n a)) (cell (r (win n j) a)) < 31
  have := cell_lt (r n a)
  unfold rel; omega

variable (hw : Words x2 x5) (hf : Reals x0 x7 x8 x11 x12)
  (hr : ∀ n a, val_main_v37 (F := Ideal) x1 x6 (ix2 n a) = (r n a : EReal))

section
include hf

/-- The projected queries and keys are real. -/
theorem pf_real (n : Fin 8192) (c : Fin 576) (hc : c.val < 384) : IsReal (pf x0 x7 x8 n c) := by
  unfold pf qkv
  exact IsReal.add (IsReal.sum fun d => IsReal.mul (hf.feats n d) (hf.weights c d hc)) (hf.offsets c hc)

/-- The scaled queries are real. -/
theorem qq_real (n : Fin 8192) (j : Fin 16) (c : Fin 192) : IsReal (qq x0 x7 x8 n j c) :=
  IsReal.mul (pf_real x0 x7 x8 x11 x12 hf n (cq c) (by show c.val < 384; omega)) ⟨_, rfl⟩

/-- The keys of a window are real. -/
theorem kk_real (n : Fin 8192) (j : Fin 16) (c : Fin 192) : IsReal (kk x0 x7 x8 n j c) :=
  pf_real x0 x7 x8 x11 x12 hf (win n j) (ck c) (by show 192 + c.val < 384; omega)

/-- The query's relative terms are real. -/
theorem tq_real (n : Fin 8192) (j : Fin 16) (c : Fin 192) : IsReal (tt r x11 n j c) :=
  IsReal.sum fun a => hf.tableQ _ _ _ a (rw3_lt r n j a)

/-- The key's relative terms are real. -/
theorem tk_real (n : Fin 8192) (j : Fin 16) (c : Fin 192) : IsReal (tt r x12 n j c) :=
  IsReal.sum fun a => hf.tableK _ _ _ a (rw3_lt r n j a)

/-- A row's logits. -/
abbrev lg (n : Fin 8192) (j : Fin 16) (h : Fin 6) : EReal := logit (qq x0 x7 x8 n) (kk x0 x7 x8 n) (tt r x11 n) (tt r x12 n) j h

/-- The logits are real. -/
theorem lg_real (n : Fin 8192) (j : Fin 16) (h : Fin 6) : IsReal (lg x0 x7 x8 x11 x12 r n j h) := by
  unfold lg logit
  exact IsReal.sum fun d => IsReal.add
    (IsReal.mul (qq_real x0 x7 x8 x11 x12 hf n j _) (IsReal.add (kk_real x0 x7 x8 x11 x12 hf n j _) (tq_real x0 x7 x8 x11 x12 r hf n j _)))
    (IsReal.mul (kk_real x0 x7 x8 x11 x12 hf n j _) (tk_real x0 x7 x8 x11 x12 r hf n j _))

include hw hr

/-- The reference's logit of a pair is the window's. -/
theorem v147_at (n : Fin 8192) (j : Fin 16) (h : Fin 6) :
    val_main_v147 (F := Ideal) x0 x1 x2 x5 x6 x7 x8 x11 x12 (ix2 (pr n j) h) = lg x0 x7 x8 x11 x12 r n j h := by
  have e22 : ∀ d, val_main_v22 (F := Ideal) x0 x2 x7 x8 (ix3 (pr n j) h d) = qq x0 x7 x8 n j (hd h d) := fun d => by
    unfold val_main_v22
    rw [gather_rows _ _ _ n (v21_at hw n j), v15_at]
  have e29 : ∀ d, val_main_v29 (F := Ideal) x0 x5 x7 x8 (ix3 (pr n j) h d) = kk x0 x7 x8 n j (hd h d) := fun d => by
    unfold val_main_v29
    rw [gather_rows _ _ _ (win n j) (v28_at hw n j), v10_at]
  have eq : ∀ d, val_main_v102 (F := Ideal) x1 x2 x5 x6 x11 (ix3 (pr n j) h d) = tt r x11 n j (hd h d) := fun d => by
    rw [v102_at x1 x6 hw r hr, tt_hd]
  have ek : ∀ d, val_main_v143 (F := Ideal) x1 x2 x5 x6 x12 (ix3 (pr n j) h d) = tt r x12 n j (hd h d) := fun d => by
    rw [v143_at x1 x6 hw r hr, tt_hd]
  pointwise [val_main_v147, val_main_v146, val_main_v145, val_main_v144, val_main_v30]
  simp only [e22, e29, eq, ek]
  exact (logit_eq (fun d => qq x0 x7 x8 n j (hd h d)) (fun d => kk x0 x7 x8 n j (hd h d)) (fun d => tt r x11 n j (hd h d))
    (fun d => tt r x12 n j (hd h d)) (fun d => qq_real x0 x7 x8 x11 x12 hf n j _) (fun d => kk_real x0 x7 x8 x11 x12 hf n j _)
    (fun d => tq_real x0 x7 x8 x11 x12 r hf n j _) (fun d => tk_real x0 x7 x8 x11 x12 r hf n j _)).symm

/-- The masked logits of a row: its own pairs' and the bottom elsewhere. -/
theorem v156_at (n : Fin 8192) (m : Fin 131072) (h : Fin 6) :
    val_main_v156 (F := Ideal) x0 x1 x2 x5 x6 x7 x8 x11 x12 (ix3 n m h)
      = Scalar.select (IntOp.cmpi CmpIPredicate.eq (x2 (ix1 m)) (BitVec.ofNat 32 n.val))
          (val_main_v147 (F := Ideal) x0 x1 x2 x5 x6 x7 x8 x11 x12 (ix2 m h)) ⊥ := by
  pointwise [val_main_v156, val_main_call1_v0, val_main_call1_v1, val_main_call1_v2, val_main_call1_v3, val_main_cst_30,
    val_main_v155, val_main_v154, val_main_v153, val_main_v152, val_main_v151, val_main_v150, val_main_v149, val_main_v148]
  exact congrArg (Scalar.select _ _) ofBits_bot

/-- The greatest of a row's logits is real. -/
theorem v157_real (n : Fin 8192) (h : Fin 6) :
    IsReal (val_main_v157 (F := Ideal) x0 x1 x2 x5 x6 x7 x8 x11 x12 (ix2 n h)) := by
  have eb : val_main_cst_31 (F := Ideal) (Shape.Idx.first h_S_) = ⊥ := ofBits_bot
  pointwise [val_main_v157]
  rw [eb]
  refine fold_max_real _ (fun m => ?_) (pr n 0) ?_
  · show IsReal (val_main_v156 (F := Ideal) x0 x1 x2 x5 x6 x7 x8 x11 x12 (ix3 n m h)) ∨ val_main_v156 (F := Ideal) x0 x1 x2 x5 x6 x7 x8 x11 x12 (ix3 n m h) = ⊥
    rw [v156_at x0 x1 x6 x7 x8 x11 x12 r hw hf hr]
    obtain ⟨n', j, rfl⟩ := pr_surj m
    rw [v147_at x0 x1 x6 x7 x8 x11 x12 r hw hf hr]
    unfold Scalar.select
    split
    · exact Or.inl (lg_real x0 x7 x8 x11 x12 r hf n' j h)
    · exact Or.inr rfl
  · show IsReal (val_main_v156 (F := Ideal) x0 x1 x2 x5 x6 x7 x8 x11 x12 (ix3 n (pr n 0) h))
    rw [v156_at x0 x1 x6 x7 x8 x11 x12 r hw hf hr, hw.own]
    have e : IntOp.cmpi CmpIPredicate.eq (BitVec.ofNat 32 n.val) (BitVec.ofNat 32 n.val) = 1#1 := by
      show BitVec.ofBool (BitVec.ofNat 32 n.val == BitVec.ofNat 32 n.val) = 1#1
      rw [beq_self_eq_true]; rfl
    rw [e, v147_at x0 x1 x6 x7 x8 x11 x12 r hw hf hr]
    exact lg_real x0 x7 x8 x11 x12 r hf n 0 h

/-- The reference's weight of a pair is the window's softmax. -/
theorem v177_at (n : Fin 8192) (j : Fin 16) (h : Fin 6) :
    val_main_v177 (F := Ideal) x0 x1 x2 x5 x6 x7 x8 x11 x12 (ix2 (pr n j) h)
      = soft (qq x0 x7 x8 n) (kk x0 x7 x8 n) (tt r x11 n) (tt r x12 n) j h := by
  have e166 : ∀ j, val_main_v166 (F := Ideal) x0 x1 x2 x5 x6 x7 x8 x11 x12 (ix2 (pr n j) h)
      = Ideal.exp (lg x0 x7 x8 x11 x12 r n j h - val_main_v157 (F := Ideal) x0 x1 x2 x5 x6 x7 x8 x11 x12 (ix2 n h)) := fun j => by
    have e164 : val_main_v164 (F := Ideal) x0 x1 x2 x5 x6 x7 x8 x11 x12 (ix2 (pr n j) h)
        = val_main_v157 (F := Ideal) x0 x1 x2 x5 x6 x7 x8 x11 x12 (ix2 n h) := by
      unfold val_main_v164
      rw [gather_heads _ _ _ n (v163_at hw n j)]
    pointwise [val_main_v166, val_main_v165]
    rw [e164, v147_at x0 x1 x6 x7 x8 x11 x12 r hw hf hr]
  have e176 : val_main_v176 (F := Ideal) x0 x1 x2 x5 x6 x7 x8 x11 x12 (ix2 (pr n j) h)
      = 0 + ∑ i : Fin 16, Ideal.exp (lg x0 x7 x8 x11 x12 r n i h - val_main_v157 (F := Ideal) x0 x1 x2 x5 x6 x7 x8 x11 x12 (ix2 n h)) := by
    unfold val_main_v176
    rw [gather_heads _ _ _ n (v175_at hw n j)]
    unfold val_main_v169
    rw [scatter_heads _ _ _ (v168_at hw)]
    simp only [e166]
    congr 1
    pointwise [val_main_v167, val_main_cst_34]
  pointwise [val_main_v177]
  rw [e166, e176]
  exact softmax_shift (fun i => lg x0 x7 x8 x11 x12 r n i h) _ (fun i => lg_real x0 x7 x8 x11 x12 r hf n i h)
    (v157_real x0 x1 x6 x7 x8 x11 x12 r hw hf hr n h) j

/-- The reference's result at an entry. -/
theorem v238_at (x9 : FVec Ideal S192x192 .f32) (x10 : FVec Ideal S192 .f32) (n : Fin 8192) (o : Fin 192) :
    val_main_v238 (F := Ideal) x0 x1 x2 x5 x6 x7 x8 x9 x10 x11 x12 x13 (ix2 n o)
      = result (fun n d => x0 (ix2 n d)) (fun c d => x7 (ix2 c d)) (fun c => x8 (ix1 c)) (fun o c => x9 (ix2 o c)) (fun o => x10 (ix1 o))
          (tb x11) (tb x12) (tb x13) r n o := by
  have e232 : ∀ (h : Fin 6) (d : Fin 32), val_main_v232 (F := Ideal) x0 x1 x2 x5 x6 x7 x8 x11 x12 x13 (ix3 n h d)
      = mix (qq x0 x7 x8 n) (kk x0 x7 x8 n) (vv x0 x7 x8 n) (tt r x11 n) (tt r x12 n) (tt r x13 n) (hd h d) := fun h d => by
    unfold val_main_v232 mix
    rw [scatter_rows _ _ _ (v231_at hw), headOf_hd]
    have z : val_main_v230 (F := Ideal) (ix3 n h d) = 0 := by
      pointwise [val_main_v230, val_main_cst_48]
    rw [z, zero_add]
    refine Finset.sum_congr rfl fun j _ => ?_
    have e225 : val_main_v225 (F := Ideal) x0 x5 x7 x8 (ix3 (pr n j) h d) = vv x0 x7 x8 n j (hd h d) := by
      unfold val_main_v225
      rw [gather_rows _ _ _ (win n j) (v224_at hw n j), v12_at]
    pointwise [val_main_v229, val_main_v228, val_main_v227, val_main_v226]
    rw [v177_at x0 x1 x6 x7 x8 x11 x12 r hw hf hr, e225, v218_at x1 x6 hw r hr, tt_hd]
  pointwise [val_main_v238, val_main_v237, val_main_v236, val_main_v235, val_main_v234, val_main_v233]
  unfold result att
  refine congrArg (· + x10 (ix1 o)) (Finset.sum_congr rfl fun c _ => ?_)
  have ec : hd ⟨c.val / 32, by omega⟩ ⟨c.val % 32, by omega⟩ = c := Fin.ext (by show c.val / 32 * 32 + c.val % 32 = c.val; omega)
  refine congrArg (· * x9 (ix2 o c)) ((e232 ⟨c.val / 32, by omega⟩ ⟨c.val % 32, by omega⟩).trans ?_)
  rw [ec]

end

end WinAttn.Ref

end
-- ==== Proof.Pre.lean ====
module

public import proofs.«01_k».proof.Proof.RMax
public import proofs.«01_k».proof.Proof.Gen.Pre_windowed_finite
public import Idealize.ShloMosaic.Lib.ReduceAll
public import Idealize.ShloMosaic.Lib.Affine

@[expose] public section

set_option maxRecDepth 16384

noncomputable section

open Idealize.ShloMosaic Idealize.ShloMosaic.TcCoe Idealize.SL.Sem

/-! What the precondition says of its arguments. -/

namespace WinAttn.Pre

open Cert.Pre_windowed_finite Cert.Pre_windowed_finite.Gen

/-- There is one index of a scalar. -/
instance one_index : Subsingleton S_.Idx := ⟨fun _ _ => funext fun a => a.elim0⟩

/-- An absolute value found below the top is a real's. -/
theorem real_of_olt (x : EReal) (h : Ideal.cmp .olt (max x (-x)) (Ideal.ofBits .f32 0x7F800000#32) = 1#1) : IsReal x := by
  rw [ofBits_top] at h
  refine isReal_of_abs_lt ?_
  by_contra hn
  have : Ideal.cmp .olt (max x (-x)) ⊤ = 0#1 := by
    show BitVec.ofBool (decide (max x (-x) < ⊤)) = 0#1
    rw [decide_eq_false hn]; rfl
  rw [this] at h
  exact absurd h (by decide)

variable {x0 : FVec Ideal S8192x192 .f32} {x1 : FVec Ideal S8192x3 .f32} {x2 : IVec S131072 32} {x3 : IVec S8193 32} {x4 : IVec S_ 32}
  {x5 : IVec S131072 32} {x6 : IVec S_ 32} {x7 : FVec Ideal S576x192 .f32} {x8 : FVec Ideal S576 .f32} {x9 : FVec Ideal S192x192 .f32}
  {x10 : FVec Ideal S192 .f32} {x11 x12 x13 : FVec Ideal S64x6x32x3 .f32}

/-- The precondition, one conjunct at a time, read at indices. -/
theorem parts (h : fn (F := Ideal) x0 x1 x2 x3 x4 x5 x6 x7 x8 x9 x10 x11 x12 x13 = fun _ => 1#1) :
    Ref.Words x2 x5 ∧ Ref.Reals x0 x7 x8 x11 x12 ∧ ∀ n a, IsReal (x1 (ix2 n a)) := by
  have e := congrFun h ix0
  dsimp only [fn, fn_part1, fn_part2] at e
  obtain ⟨e8, k8⟩ := IntOp.andi_eq_one.1 e
  obtain ⟨e7, k7⟩ := IntOp.andi_eq_one.1 e8
  obtain ⟨e6, k6⟩ := IntOp.andi_eq_one.1 e7
  obtain ⟨e5, k5⟩ := IntOp.andi_eq_one.1 e6
  obtain ⟨e4, k4⟩ := IntOp.andi_eq_one.1 e5
  obtain ⟨e3, k3⟩ := IntOp.andi_eq_one.1 e4
  obtain ⟨k1, k2⟩ := IntOp.andi_eq_one.1 e3
  have q1 := Host.reduce_andi_all _ _ _ _ ix0 k1
  have q2 := Host.reduce_andi_all _ _ _ _ ix0 k2
  have q3 := Host.reduce_andi_all _ _ _ _ ix0 k3
  have q4 := Host.reduce_andi_all _ _ _ _ ix0 k4
  have q5 := Host.reduce_andi_all _ _ _ _ ix0 k5
  have q6 := Host.reduce_andi_all _ _ _ _ ix0 k6
  have q7 := Host.reduce_andi_all _ _ _ _ ix0 k7
  have q8 := Host.reduce_andi_all _ _ _ _ ix0 k8
  clear e e8 e7 e6 e5 e4 e3 k1 k2 k3 k4 k5 k6 k7 k8 h
  refine ⟨⟨fun n j => ?_, fun n j => ?_⟩, ⟨fun n d => ?_, fun c d hc => ?_, fun c hc => ?_, fun l h d a hl => ?_, fun l h d a hl => ?_⟩, fun n a => ?_⟩
  · have p := q1 (ix2 n j)
    clear q1 q2 q3 q4 q5 q6 q7 q8
    pointwise [] at p
    exact IntOp.cmpi_eq.1 p
  · have p := q2 (ix3 ⟨n.val / 16, by omega⟩ ⟨n.val % 16, by omega⟩ j)
    clear q1 q2 q3 q4 q5 q6 q7 q8
    pointwise [] at p
    have e1 := IntOp.cmpi_eq.1 p
    have e2 : Ref.pr n j = ⟨n.val / 16 * 256 + n.val % 16 * 16 + j.val, by omega⟩ :=
      Fin.ext (by show n.val * 16 + j.val = n.val / 16 * 256 + n.val % 16 * 16 + j.val; omega)
    rw [e2, e1]
    show BitVec.ofNat 32 (n.val / 16) * BitVec.ofNat 32 16 + BitVec.ofNat 32 j.val = BitVec.ofNat 32 (n.val / 16 * 16 + j.val)
    rw [BitVec.ofNat_add, BitVec.ofNat_mul]
  · exact real_of_olt _ (q3 (ix2 n d))
  · have p := q5 (ix2 ⟨c.val, hc⟩ d)
    clear q1 q2 q3 q4 q5 q6 q7 q8
    pointwise [] at p
    exact real_of_olt _ p
  · have p := q6 (ix1 ⟨c.val, hc⟩)
    clear q1 q2 q3 q4 q5 q6 q7 q8
    pointwise [] at p
    exact real_of_olt _ p
  · have p := q7 (ix4 ⟨l.val, hl⟩ h d a)
    clear q1 q2 q3 q4 q5 q6 q7 q8
    pointwise [] at p
    exact real_of_olt _ p
  · have p := q8 (ix4 ⟨l.val, hl⟩ h d a)
    clear q1 q2 q3 q4 q5 q6 q7 q8
    pointwise [] at p
    exact real_of_olt _ p
  · exact real_of_olt _ (q4 (ix2 n a))

end WinAttn.Pre

end
-- ==== Proof.Eq.lean ====
module

public import proofs.«01_k».proof.Proof.KArr
public import proofs.«01_k».proof.Proof.Pre

@[expose] public section

set_option maxRecDepth 16384

noncomputable section

open Idealize.ShloMosaic Idealize.ShloMosaic.TcCoe Idealize.SL.Sem

/-! The two programs compute one array. -/

namespace WinAttn

open Cert.KernelIdeal Cert.KernelIdeal.Gen

variable (m : (ℓ : Loc nD τ sig) → Buf (Elt Ideal) ℓ) (c : Dev nD)

/-- On finite points the kernel's shifted position and the reference's are one real: one subtracts the least less the shift, the other
    subtracts the least and adds the shift. -/
theorem positions (h1 : ∀ n a, IsReal ((m ((c : Thread nD τ).loc main_arg1) : FVec Ideal S8192x3 .f32) (ix2 n a))) :
    ∃ r : Fin 8192 → Fin 3 → ℝ,
      (∀ n a, Kern.argX m c n a - (V m c main_call0_v3 : Vec Ideal S1x3 .f32) (ix2 0 a) = (r n a : EReal))
      ∧ ∀ n a, Cert.ReferenceIdeal.Read.val_main_v37 (F := Ideal) (m ((c : Thread nD τ).loc main_arg1)) (m ((c : Thread nD τ).loc main_arg6)) (ix2 n a)
          = (r n a : EReal) := by
  have h2 := fun a => Ref.v31_real (m ((c : Thread nD τ).loc main_arg1)) h1 a
  choose x hx using h1
  choose l hl using h2
  refine ⟨fun n a => x n a - l a + (((m ((c : Thread nD τ).loc main_arg6) : IVec S_ 32) ix0).toInt : ℝ), fun n a => ?_, fun n a => ?_⟩
  · rw [Kern.off_at]
    have e : Kern.least (m ((c : Thread nD τ).loc main_arg1)) (ix1 a) = (l a : EReal) := hl a
    have e' : Kern.argX m c n a = (x n a : EReal) := hx n a
    rw [e, e', ← EReal.coe_sub, ← EReal.coe_sub]
    refine EReal.coe_eq_coe_iff.2 ?_
    generalize (((m ((c : Thread nD τ).loc main_arg6) : IVec S_ 32) ix0).toInt : ℝ) = s
    ring
  · rw [Ref.v37_at, hl a, hx n a, ← EReal.coe_sub, ← EReal.coe_add]

/-- The reference's result of the kernel's arguments is the kernel's result array. -/
theorem value (hpre : Cert.Pre_windowed_finite.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13)) = fun _ => 1#1) :
    Cert.ReferenceIdeal.Read.val_main_v238 (F := Ideal) (m ((c : Thread nD τ).loc main_arg0)) (m ((c : Thread nD τ).loc main_arg1))
      (m ((c : Thread nD τ).loc main_arg2)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) (m ((c : Thread nD τ).loc main_arg11)) (m ((c : Thread nD τ).loc main_arg12))
      (m ((c : Thread nD τ).loc main_arg13)) = (dats m 0 c).arrAt 8 cfg0.N := by
  obtain ⟨hw, hf, h1⟩ := Pre.parts hpre
  obtain ⟨r, hk, hr⟩ := positions m c h1
  rw [Kern.final m c r hk]
  funext i
  obtain ⟨n, o, rfl⟩ : ∃ (n : Fin 8192) (o : Fin 192), i = ix2 n o := ⟨i 0, i 1, eq_ix2 i⟩
  exact Ref.v238_at _ _ _ _ _ _ _ _ r hw hf hr _ _ n o

end WinAttn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_windowed_finite
public import proofs.«01_k».proof.Proof.Eq
public import Idealize.ShloMosaic.Adequacy
public import Idealize.ShloMosaic.Init
public import Idealize.ShloMosaic.Lib.Quiescent
public import Idealize.ShloMosaic.Lib.Claim

@[expose] public section

noncomputable section

namespace Cert.Proof

open Idealize.ShloMosaic Idealize.SL.Sem Cert.Kernel

/-- The reference runs, changes no argument, and leaves every semaphore at zero. -/
theorem reference_frame : quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- The named constant is the literal it replaces, rounded. -/
theorem scale_kept : preserves_Kernel_KernelIdeal :=
  IdealRules.named_const.statement Cert.KernelIdeal.κ "scale" .f32 0x3E3504F3#32 (((Real.sqrt 32)⁻¹ : ℝ) : EReal) rfl

/-- Where the pair list is the window's and the logits' data are finite, the two programs end with one array. -/
theorem same_values : algebraic_KernelIdeal_ReferenceIdeal_pre_windowed_finite := by
  intro m ρ m' ρ' hpre hagree
  refine ⟨fun c => (Cert.KernelIdeal.Gen.dats m 0 c).arrAt 8 Cert.KernelIdeal.cfg0.N, ?_, ?_⟩
  · exact Cert.KernelIdeal.Value.run_blocks (F := Ideal) m ρ
  · refine (θ_run (Cert.ReferenceIdeal.defs (F := Ideal)) _ _).mono (fun _ h c => ⟨(h c).1.trans ?_, (h c).2⟩)
      (Cert.ReferenceIdeal.Value.run (F := Ideal) m' ρ')
    refine (Cert.ReferenceIdeal.Read.val_main_v238_eq (F := Ideal) (StableHlo.launchContents m' c)).trans ?_
    obtain ⟨a0, a1, a2, -, -, a5, a6, a7, a8, a9, a10, a11, a12, a13⟩ := hagree c
    show Cert.ReferenceIdeal.Read.val_main_v238 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13)) = _
    rw [a0, a1, a2, a5, a6, a7, a8, a9, a10, a11, a12, a13]
    exact WinAttn.value m c (hpre c)

/-- The stated facts, the frames, the named constant, and the equal results. -/
theorem claim : Cert.Claim := ⟨Cert.Kernel.Gen.facts, Cert.KernelIdeal.Gen.facts, Cert.ReferenceIdeal.Gen.facts, Cert.Pre_windowed_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, scale_kept, same_values⟩

end Cert.Proof

end
